-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)) (v1 : (c : Dev Cert.KernelIdeal.nD) → Buf (Elt Ideal) ((c.tc : Thread Cert.KernelIdeal.nD Cert.KernelIdeal.τ).loc Cert.KernelIdeal.main_v3)) (v2 : (c : Dev Cert.KernelIdeal.nD) → Buf (Elt Ideal) ((c.tc : Thread Cert.KernelIdeal.nD Cert.KernelIdeal.τ).loc Cert.KernelIdeal.main_v1_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_v3) = v1 c
          ∧ r.2.mem ((c.tc : Thread Cert.KernelIdeal.nD Cert.KernelIdeal.τ).loc Cert.KernelIdeal.main_v1_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2_0) = v0 c
          ∧ r.2.mem ((c.tc : Thread Cert.ReferenceIdeal.nD Cert.ReferenceIdeal.τ).loc Cert.ReferenceIdeal.main_v2_1) = v1 c
          ∧ r.2.mem ((c.tc : Thread Cert.ReferenceIdeal.nD Cert.ReferenceIdeal.τ).loc Cert.ReferenceIdeal.main_v2_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S24x1x3584 : Shape := ⟨3, ![24, 1, 3584]⟩
abbrev S4096x3584 : Shape := ⟨2, ![4096, 3584]⟩
abbrev S32x28 : Shape := ⟨2, ![32, 28]⟩
abbrev S24x3584 : Shape := ⟨2, ![24, 3584]⟩
abbrev S24x4096 : Shape := ⟨2, ![24, 4096]⟩
abbrev S28x24x128 : Shape := ⟨3, ![28, 24, 128]⟩
abbrev S24x28 : Shape := ⟨2, ![24, 28]⟩
abbrev S512x3584 : Shape := ⟨2, ![512, 3584]⟩
abbrev S24x512 : Shape := ⟨2, ![24, 512]⟩
abbrev S14x64x256 : Shape := ⟨3, ![14, 64, 256]⟩
abbrev S24x128 : Shape := ⟨2, ![24, 128]⟩
abbrev S24 : Shape := ⟨1, ![24]⟩
abbrev S24x1 : Shape := ⟨2, ![24, 1]⟩
abbrev S1x24x128 : Shape := ⟨3, ![1, 24, 128]⟩
abbrev S16x256 : Shape := ⟨2, ![16, 256]⟩
abbrev S24x256 : Shape := ⟨2, ![24, 256]⟩
abbrev S64x256 : Shape := ⟨2, ![64, 256]⟩
abbrev S1x64x256 : Shape := ⟨3, ![1, 64, 256]⟩
abbrev S512x256 : Shape := ⟨2, ![512, 256]⟩
abbrev S64x512 : Shape := ⟨2, ![64, 512]⟩
abbrev S1x1 : Shape := ⟨2, ![1, 1]⟩
abbrev S24x1x4096 : Shape := ⟨3, ![24, 1, 4096]⟩
abbrev S24x28x128 : Shape := ⟨3, ![24, 28, 128]⟩

abbrev nBuf : Space → Nat
  | .hbm => 9
  | .vmem => 9
  | .smem => 1
  | _ => 0

abbrev bufTy : (tb : Table) → Fin (tcTables nBuf tb) → BufTy
  | .hbm, ⟨0, _⟩ => ⟨S24x1x3584, .bf16⟩
  | .hbm, ⟨1, _⟩ => ⟨S4096x3584, .fp8e4m3⟩
  | .hbm, ⟨2, _⟩ => ⟨S32x28, .f32⟩
  | .hbm, ⟨3, _⟩ => ⟨S24x3584, .bf16⟩
  | .hbm, ⟨4, _⟩ => ⟨S24x4096, .bf16⟩
  | .hbm, ⟨5, _⟩ => ⟨S28x24x128, .fp8e4m3⟩
  | .hbm, ⟨6, _⟩ => ⟨S24x28, .f32⟩
  | .hbm, ⟨7, _⟩ => ⟨S24x1x4096, .bf16⟩
  | .hbm, ⟨8, _⟩ => ⟨S24x28x128, .fp8e4m3⟩
  | .local _ .vmem, ⟨0, _⟩ => ⟨S24x3584, .bf16⟩
  | .local _ .vmem, ⟨1, _⟩ => ⟨S512x3584, .fp8e4m3⟩
  | .local _ .vmem, ⟨2, _⟩ => ⟨S512x3584, .fp8e4m3⟩
  | .local _ .vmem, ⟨3, _⟩ => ⟨S24x512, .bf16⟩
  | .local _ .vmem, ⟨4, _⟩ => ⟨S24x512, .bf16⟩
  | .local _ .vmem, ⟨5, _⟩ => ⟨S28x24x128, .fp8e4m3⟩
  | .local _ .vmem, ⟨6, _⟩ => ⟨S24x28, .f32⟩
  | .local _ .vmem, ⟨7, _⟩ => ⟨S14x64x256, .fp8e4m3⟩
  | .local _ .vmem, ⟨8, _⟩ => ⟨S28x24x128, .f32⟩
  | .local _ .smem, ⟨0, _⟩ => ⟨S32x28, .f32⟩
  | _, _ => ⟨S24x1x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .smem, ⟨0, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg5_0 : Ref sig .tc := ⟨.vmem, 6, rfl⟩
abbrev cc0_scratch0 : Ref sig .tc := ⟨.vmem, 7, rfl⟩
abbrev cc0_scratch1 : Ref sig .tc := ⟨.vmem, 8, rfl⟩
abbrev cc0_stg2_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7

abbrev nD : Nat := 1
abbrev τ : Topo := Topo.v7x

variable {F : FTy → Type} [FloatOps F]

abbrev grid0 : Pipeline.Grid := ⟨1, ![8], ![false]⟩

def k0_off1 (i : grid0.Coords) (c0_i32_12 : BitVec 32) : Fin 2 → Nat :=
  let arg0 : BitVec 32 := BitVec.ofNat 32 (i 0).val
  let c4_i32 : BitVec 32 := 4#32
  let v15 : BitVec 32 := Scalar.muli arg0 c4_i32
  let v16 : BitVec 32 := Scalar.addi v15 c0_i32_12
  let v17 : Index := Scalar.indexCast v16
  let c0_13 : Index := 0#32
  ![v17.toNat, 0]
def k0_off2 (i : grid0.Coords) (c0_i32_23 : BitVec 32) : Fin 2 → Nat :=
  let arg0 : BitVec 32 := BitVec.ofNat 32 (i 0).val
  let c4_i32_22 : BitVec 32 := 4#32
  let v53 : BitVec 32 := Scalar.muli arg0 c4_i32_22
  let v54 : BitVec 32 := Scalar.addi v53 c0_i32_23
  let v55 : Index := Scalar.indexCast v54
  let c1_24 : Index := 1#32
  ![v55.toNat, 1]
def k0_off3 (i : grid0.Coords) (c0_i32_42 : BitVec 32) : Fin 2 → Nat :=
  let arg0 : BitVec 32 := BitVec.ofNat 32 (i 0).val
  let c4_i32_41 : BitVec 32 := 4#32
  let v95 : BitVec 32 := Scalar.muli arg0 c4_i32_41
  let v96 : BitVec 32 := Scalar.addi v95 c0_i32_42
  let v97 : Index := Scalar.indexCast v96
  let c2_43 : Index := 2#32
  ![v97.toNat, 2]
def k0_off4 (i : grid0.Coords) (c0_i32_56 : BitVec 32) : Fin 2 → Nat :=
  let arg0 : BitVec 32 := BitVec.ofNat 32 (i 0).val
  let c4_i32_55 : BitVec 32 := 4#32
  let v133 : BitVec 32 := Scalar.muli arg0 c4_i32_55
  let v134 : BitVec 32 := Scalar.addi v133 c0_i32_56
  let v135 : Index := Scalar.indexCast v134
  let c3_57 : Index := 3#32
  ![v135.toNat, 3]
def k0_off5 (i : grid0.Coords) (c0_i32_75 : BitVec 32) : Fin 2 → Nat :=
  let arg0 : BitVec 32 := BitVec.ofNat 32 (i 0).val
  let c4_i32_74 : BitVec 32 := 4#32
  let v175 : BitVec 32 := Scalar.muli arg0 c4_i32_74
  let v176 : BitVec 32 := Scalar.addi v175 c0_i32_75
  let v177 : Index := Scalar.indexCast v176
  let c4_76 : Index := 4#32
  ![v177.toNat, 4]
def k0_off6 (i : grid0.Coords) (c0_i32_89 : BitVec 32) : Fin 2 → Nat :=
  let arg0 : BitVec 32 := BitVec.ofNat 32 (i 0).val
  let c4_i32_88 : BitVec 32 := 4#32
  let v213 : BitVec 32 := Scalar.muli arg0 c4_i32_88
  let v214 : BitVec 32 := Scalar.addi v213 c0_i32_89
  let v215 : Index := Scalar.indexCast v214
  let c5_90 : Index := 5#32
  ![v215.toNat, 5]
def k0_off7 (i : grid0.Coords) (c0_i32_108 : BitVec 32) : Fin 2 → Nat :=
  let arg0 : BitVec 32 := BitVec.ofNat 32 (i 0).val
  let c4_i32_107 : BitVec 32 := 4#32
  let v255 : BitVec 32 := Scalar.muli arg0 c4_i32_107
  let v256 : BitVec 32 := Scalar.addi v255 c0_i32_108
  let v257 : Index := Scalar.indexCast v256
  let c6_109 : Index := 6#32
  ![v257.toNat, 6]
def k0_off8 (i : grid0.Coords) (c0_i32_122 : BitVec 32) : Fin 2 → Nat :=
  let arg0 : BitVec 32 := BitVec.ofNat 32 (i 0).val
  let c4_i32_121 : BitVec 32 := 4#32
  let v293 : BitVec 32 := Scalar.muli arg0 c4_i32_121
  let v294 : BitVec 32 := Scalar.addi v293 c0_i32_122
  let v295 : Index := Scalar.indexCast v294
  let c7_123 : Index := 7#32
  ![v295.toNat, 7]
def k0_off9 (i : grid0.Coords) (c0_i32_141 : BitVec 32) : Fin 2 → Nat :=
  let arg0 : BitVec 32 := BitVec.ofNat 32 (i 0).val
  let c4_i32_140 : BitVec 32 := 4#32
  let v335 : BitVec 32 := Scalar.muli arg0 c4_i32_140
  let v336 : BitVec 32 := Scalar.addi v335 c0_i32_141
  let v337 : Index := Scalar.indexCast v336
  let c8_142 : Index := 8#32
  ![v337.toNat, 8]
def k0_off10 (i : grid0.Coords) (c0_i32_155 : BitVec 32) : Fin 2 → Nat :=
  let arg0 : BitVec 32 := BitVec.ofNat 32 (i 0).val
  let c4_i32_154 : BitVec 32 := 4#32
  let v373 : BitVec 32 := Scalar.muli arg0 c4_i32_154
  let v374 : BitVec 32 := Scalar.addi v373 c0_i32_155
  let v375 : Index := Scalar.indexCast v374
  let c9_156 : Index := 9#32
  ![v375.toNat, 9]
def k0_off11 (i : grid0.Coords) (c0_i32_174 : BitVec 32) : Fin 2 → Nat :=
  let arg0 : BitVec 32 := BitVec.ofNat 32 (i 0).val
  let c4_i32_173 : BitVec 32 := 4#32
  let v415 : BitVec 32 := Scalar.muli arg0 c4_i32_173
  let v416 : BitVec 32 := Scalar.addi v415 c0_i32_174
  let v417 : Index := Scalar.indexCast v416
  let c10_175 : Index := 10#32
  ![v417.toNat, 10]
def k0_off12 (i : grid0.Coords) (c0_i32_188 : BitVec 32) : Fin 2 → Nat :=
  let arg0 : BitVec 32 := BitVec.ofNat 32 (i 0).val
  let c4_i32_187 : BitVec 32 := 4#32
  let v453 : BitVec 32 := Scalar.muli arg0 c4_i32_187
  let v454 : BitVec 32 := Scalar.addi v453 c0_i32_188
  let v455 : Index := Scalar.indexCast v454
  let c11_189 : Index := 11#32
  ![v455.toNat, 11]
def k0_off13 (i : grid0.Coords) (c0_i32_207 : BitVec 32) : Fin 2 → Nat :=
  let arg0 : BitVec 32 := BitVec.ofNat 32 (i 0).val
  let c4_i32_206 : BitVec 32 := 4#32
  let v495 : BitVec 32 := Scalar.muli arg0 c4_i32_206
  let v496 : BitVec 32 := Scalar.addi v495 c0_i32_207
  let v497 : Index := Scalar.indexCast v496
  let c12_208 : Index := 12#32
  ![v497.toNat, 12]
def k0_off14 (i : grid0.Coords) (c0_i32_221 : BitVec 32) : Fin 2 → Nat :=
  let arg0 : BitVec 32 := BitVec.ofNat 32 (i 0).val
  let c4_i32_220 : BitVec 32 := 4#32
  let v533 : BitVec 32 := Scalar.muli arg0 c4_i32_220
  let v534 : BitVec 32 := Scalar.addi v533 c0_i32_221
  let v535 : Index := Scalar.indexCast v534
  let c13_222 : Index := 13#32
  ![v535.toNat, 13]
def k0_off15 (i : grid0.Coords) (c0_i32_240 : BitVec 32) : Fin 2 → Nat :=
  let arg0 : BitVec 32 := BitVec.ofNat 32 (i 0).val
  let c4_i32_239 : BitVec 32 := 4#32
  let v575 : BitVec 32 := Scalar.muli arg0 c4_i32_239
  let v576 : BitVec 32 := Scalar.addi v575 c0_i32_240
  let v577 : Index := Scalar.indexCast v576
  let c14_241 : Index := 14#32
  ![v577.toNat, 14]
def k0_off16 (i : grid0.Coords) (c0_i32_254 : BitVec 32) : Fin 2 → Nat :=
  let arg0 : BitVec 32 := BitVec.ofNat 32 (i 0).val
  let c4_i32_253 : BitVec 32 := 4#32
  let v613 : BitVec 32 := Scalar.muli arg0 c4_i32_253
  let v614 : BitVec 32 := Scalar.addi v613 c0_i32_254
  let v615 : Index := Scalar.indexCast v614
  let c15_255 : Index := 15#32
  ![v615.toNat, 15]
def k0_off17 (i : grid0.Coords) (c0_i32_273 : BitVec 32) : Fin 2 → Nat :=
  let arg0 : BitVec 32 := BitVec.ofNat 32 (i 0).val
  let c4_i32_272 : BitVec 32 := 4#32
  let v655 : BitVec 32 := Scalar.muli arg0 c4_i32_272
  let v656 : BitVec 32 := Scalar.addi v655 c0_i32_273
  let v657 : Index := Scalar.indexCast v656
  let c16_274 : Index := 16#32
  ![v657.toNat, 16]
def k0_off18 (i : grid0.Coords) (c0_i32_287 : BitVec 32) : Fin 2 → Nat :=
  let arg0 : BitVec 32 := BitVec.ofNat 32 (i 0).val
  let c4_i32_286 : BitVec 32 := 4#32
  let v693 : BitVec 32 := Scalar.muli arg0 c4_i32_286
  let v694 : BitVec 32 := Scalar.addi v693 c0_i32_287
  let v695 : Index := Scalar.indexCast v694
  let c17_288 : Index := 17#32
  ![v695.toNat, 17]
def k0_off19 (i : grid0.Coords) (c0_i32_306 : BitVec 32) : Fin 2 → Nat :=
  let arg0 : BitVec 32 := BitVec.ofNat 32 (i 0).val
  let c4_i32_305 : BitVec 32 := 4#32
  let v735 : BitVec 32 := Scalar.muli arg0 c4_i32_305
  let v736 : BitVec 32 := Scalar.addi v735 c0_i32_306
  let v737 : Index := Scalar.indexCast v736
  let c18_307 : Index := 18#32
  ![v737.toNat, 18]
def k0_off20 (i : grid0.Coords) (c0_i32_320 : BitVec 32) : Fin 2 → Nat :=
  let arg0 : BitVec 32 := BitVec.ofNat 32 (i 0).val
  let c4_i32_319 : BitVec 32 := 4#32
  let v773 : BitVec 32 := Scalar.muli arg0 c4_i32_319
  let v774 : BitVec 32 := Scalar.addi v773 c0_i32_320
  let v775 : Index := Scalar.indexCast v774
  let c19_321 : Index := 19#32
  ![v775.toNat, 19]
def k0_off21 (i : grid0.Coords) (c0_i32_339 : BitVec 32) : Fin 2 → Nat :=
  let arg0 : BitVec 32 := BitVec.ofNat 32 (i 0).val
  let c4_i32_338 : BitVec 32 := 4#32
  let v815 : BitVec 32 := Scalar.muli arg0 c4_i32_338
  let v816 : BitVec 32 := Scalar.addi v815 c0_i32_339
  let v817 : Index := Scalar.indexCast v816
  let c20_340 : Index := 20#32
  ![v817.toNat, 20]
def k0_off22 (i : grid0.Coords) (c0_i32_353 : BitVec 32) : Fin 2 → Nat :=
  let arg0 : BitVec 32 := BitVec.ofNat 32 (i 0).val
  let c4_i32_352 : BitVec 32 := 4#32
  let v853 : BitVec 32 := Scalar.muli arg0 c4_i32_352
  let v854 : BitVec 32 := Scalar.addi v853 c0_i32_353
  let v855 : Index := Scalar.indexCast v854
  let c21_354 : Index := 21#32
  ![v855.toNat, 21]
def k0_off23 (i : grid0.Coords) (c0_i32_372 : BitVec 32) : Fin 2 → Nat :=
  let arg0 : BitVec 32 := BitVec.ofNat 32 (i 0).val
  let c4_i32_371 : BitVec 32 := 4#32
  let v895 : BitVec 32 := Scalar.muli arg0 c4_i32_371
  let v896 : BitVec 32 := Scalar.addi v895 c0_i32_372
  let v897 : Index := Scalar.indexCast v896
  let c22_373 : Index := 22#32
  ![v897.toNat, 22]
def k0_off24 (i : grid0.Coords) (c0_i32_386 : BitVec 32) : Fin 2 → Nat :=
  let arg0 : BitVec 32 := BitVec.ofNat 32 (i 0).val
  let c4_i32_385 : BitVec 32 := 4#32
  let v933 : BitVec 32 := Scalar.muli arg0 c4_i32_385
  let v934 : BitVec 32 := Scalar.addi v933 c0_i32_386
  let v935 : Index := Scalar.indexCast v934
  let c23_387 : Index := 23#32
  ![v935.toNat, 23]
def k0_off25 (i : grid0.Coords) (c0_i32_405 : BitVec 32) : Fin 2 → Nat :=
  let arg0 : BitVec 32 := BitVec.ofNat 32 (i 0).val
  let c4_i32_404 : BitVec 32 := 4#32
  let v975 : BitVec 32 := Scalar.muli arg0 c4_i32_404
  let v976 : BitVec 32 := Scalar.addi v975 c0_i32_405
  let v977 : Index := Scalar.indexCast v976
  let c24_406 : Index := 24#32
  ![v977.toNat, 24]
def k0_off26 (i : grid0.Coords) (c0_i32_419 : BitVec 32) : Fin 2 → Nat :=
  let arg0 : BitVec 32 := BitVec.ofNat 32 (i 0).val
  let c4_i32_418 : BitVec 32 := 4#32
  let v1013 : BitVec 32 := Scalar.muli arg0 c4_i32_418
  let v1014 : BitVec 32 := Scalar.addi v1013 c0_i32_419
  let v1015 : Index := Scalar.indexCast v1014
  let c25_420 : Index := 25#32
  ![v1015.toNat, 25]
def k0_off27 (i : grid0.Coords) (c0_i32_438 : BitVec 32) : Fin 2 → Nat :=
  let arg0 : BitVec 32 := BitVec.ofNat 32 (i 0).val
  let c4_i32_437 : BitVec 32 := 4#32
  let v1055 : BitVec 32 := Scalar.muli arg0 c4_i32_437
  let v1056 : BitVec 32 := Scalar.addi v1055 c0_i32_438
  let v1057 : Index := Scalar.indexCast v1056
  let c26_439 : Index := 26#32
  ![v1057.toNat, 26]
def k0_off28 (i : grid0.Coords) (c0_i32_452 : BitVec 32) : Fin 2 → Nat :=
  let arg0 : BitVec 32 := BitVec.ofNat 32 (i 0).val
  let c4_i32_451 : BitVec 32 := 4#32
  let v1093 : BitVec 32 := Scalar.muli arg0 c4_i32_451
  let v1094 : BitVec 32 := Scalar.addi v1093 c0_i32_452
  let v1095 : Index := Scalar.indexCast v1094
  let c27_453 : Index := 27#32
  ![v1095.toNat, 27]
def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S24x3584 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x3584 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .smem S32x28 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S24x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S28x24x128 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S24x28 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== ReferenceIdeal.lean ====
abbrev S24x1x3584 : Shape := ⟨3, ![24, 1, 3584]⟩
abbrev S4096x3584 : Shape := ⟨2, ![4096, 3584]⟩
abbrev S32x28 : Shape := ⟨2, ![32, 28]⟩
abbrev S24x28x128 : Shape := ⟨3, ![24, 28, 128]⟩
abbrev S4096x28x128 : Shape := ⟨3, ![4096, 28, 128]⟩
abbrev S24x1x4096 : Shape := ⟨3, ![24, 1, 4096]⟩
abbrev S24x28 : Shape := ⟨2, ![24, 28]⟩
abbrev S24x28x254 : Shape := ⟨3, ![24, 28, 254]⟩
abbrev S24x28x1 : Shape := ⟨3, ![24, 28, 1]⟩
abbrev S28x24x4096 : Shape := ⟨3, ![28, 24, 4096]⟩
abbrev S32x1x28 : Shape := ⟨3, ![32, 1, 28]⟩
abbrev S32x128x28 : Shape := ⟨3, ![32, 128, 28]⟩
abbrev S4096x28 : Shape := ⟨2, ![4096, 28]⟩
abbrev S28x24 : Shape := ⟨2, ![28, 24]⟩
abbrev S28x24x1 : Shape := ⟨3, ![28, 24, 1]⟩
abbrev S28x4096 : Shape := ⟨2, ![28, 4096]⟩
abbrev S28x1x4096 : Shape := ⟨3, ![28, 1, 4096]⟩
abbrev S24x4096 : Shape := ⟨2, ![24, 4096]⟩

abbrev nBuf : Space → Nat
  | .hbm => 8
  | .vmem => 6
  | .smem => 0
  | _ => 0

abbrev bufTy : (tb : Table) → Fin (tcTables nBuf tb) → BufTy
  | .hbm, ⟨0, _⟩ => ⟨S24x1x3584, .bf16⟩
  | .hbm, ⟨1, _⟩ => ⟨S4096x3584, .fp8e4m3⟩
  | .hbm, ⟨2, _⟩ => ⟨S32x28, .f32⟩
  | .hbm, ⟨3, _⟩ => ⟨S24x28x128, .bf16⟩
  | .hbm, ⟨4, _⟩ => ⟨S4096x28x128, .fp8e4m3⟩
  | .hbm, ⟨5, _⟩ => ⟨S24x1x4096, .bf16⟩
  | .hbm, ⟨6, _⟩ => ⟨S24x28x128, .fp8e4m3⟩
  | .hbm, ⟨7, _⟩ => ⟨S24x28, .f32⟩
  | .local _ .vmem, ⟨0, _⟩ => ⟨S24x28x128, .bf16⟩
  | .local _ .vmem, ⟨1, _⟩ => ⟨S4096x28x128, .fp8e4m3⟩
  | .local _ .vmem, ⟨2, _⟩ => ⟨S32x28, .f32⟩
  | .local _ .vmem, ⟨3, _⟩ => ⟨S24x1x4096, .bf16⟩
  | .local _ .vmem, ⟨4, _⟩ => ⟨S24x28x128, .fp8e4m3⟩
  | .local _ .vmem, ⟨5, _⟩ => ⟨S24x28, .f32⟩
  | _, _ => ⟨S24x1x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S24x28x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x28x128 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S32x28 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S24x1x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S24x28x128 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S24x28 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.Points.lean ====
/- The grid points of the kernel: which of them take the branch that quantises the activations, the buffers the body is
   called with at a point, and the invariant that the two scratch buffers are in. -/
module

public import proofs.«01_k».proof.Proof.Gen.KernelIdeal.Frame
public import proofs.«01_k».proof.Proof.Gen.KernelIdeal.Skeleton

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The condition of the body's branch, from the grid coordinates. -/
abbrev cond0_0 (i : grid0.Coords) : Prop := k0_cond1 i = 1#1

/-- The branch is taken at the first point only. -/
theorem hcond0_0 : ∀ t : Fin cfg0.N, cond0_0 (grid0.coords t) ↔ t.val % 8 = 0 :=
  (fun t => by
    have ht : t.val < 8 := Nat.lt_of_lt_of_eq t.isLt N_0
    have e0 : (grid0.coords t 0).val = t.val / 1 % 8 := Pipeline.Grid.coords_val t 0 (by decide) rfl
    simp only [cond0_0, k0_cond1, e0]
    word_cmp
   : ∀ t : Fin grid0.N, cond0_0 (grid0.coords t) ↔ t.val % 8 = 0)

/-- One staging buffer of each output window, through which its contents are stated. -/
abbrev VO0_3 : View sig .tc .vmem S24x512 .bf16 := (Memref.whole cc0_stg3_0 : Memref sig .tc .vmem S24x512 .bf16).view
abbrev VO0_4 : View sig .tc .vmem S28x24x128 .fp8e4m3 := (Memref.whole cc0_stg4_0 : Memref sig .tc .vmem S28x24x128 .fp8e4m3).view
abbrev VO0_5 : View sig .tc .vmem S24x28 .f32 := (Memref.whole cc0_stg5_0 : Memref sig .tc .vmem S24x28 .f32).view

/-- Each window's current staging memref at point `t`, and its wholeness. -/
abbrev ms0_0 (t : Fin cfg0.N) : Memref sig .tc .vmem S24x3584 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x3584 .fp8e4m3 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .smem S32x28 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S24x512 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S28x24x128 .fp8e4m3 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S24x28 .f32 := win0_5.stage (cfg0.slots t 5)
abbrev hs0_5 (t : Fin cfg0.N) : (ms0_5 t).IsWhole := hstage0_5 ((cfg0.slots t 5).cast nbuf0_5)

/-- The scratch operands: the block-diagonal codes and the scales, each a whole buffer of the kernel's own. -/
abbrev scM0_0 : Memref sig .tc .vmem S14x64x256 .fp8e4m3 := Memref.whole cc0_scratch0
abbrev scM0_1 : Memref sig .tc .vmem S28x24x128 .f32 := Memref.whole cc0_scratch1
/-- The two scratch buffers as views: what they hold is stated through them. -/
abbrev VS0_0 : View sig .tc .vmem S14x64x256 .fp8e4m3 := scM0_0.view
abbrev VS0_1 : View sig .tc .vmem S28x24x128 .f32 := scM0_1.view

/-- The invariant at entry: each scratch buffer at some contents, the generator register at some state. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.KernelIdeal.Run

end
-- ==== Proof.BodyFirst.lean ====
/- The run of the kernel's body at the first grid point, where it quantises the activations and multiplies. -/
module

public import proofs.«01_k».proof.Proof.Points

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- What the body's stores leave in each output's staging buffer and in each scratch buffer at a point that takes the
    branch, as lists of stored pieces (the last one first), with the proof that the body, called with the inputs at
    `x0`, `x1`, `x2` and everything else at some contents, ends with the inputs as they were and each other buffer
    with its pieces written. -/
noncomputable def kernelRun0_A (c : Dev nD) (i : grid0.Coords)
    (arg1 : Memref sig .tc .vmem S24x3584 .bf16) (harg1 : arg1.IsWhole) (arg2 : Memref sig .tc .vmem S512x3584 .fp8e4m3) (harg2 : arg2.IsWhole)
    (arg3 : Memref sig .tc .smem S32x28 .f32) (harg3 : arg3.IsWhole) (arg4 : Memref sig .tc .vmem S24x512 .bf16) (harg4 : arg4.IsWhole)
    (arg5 : Memref sig .tc .vmem S28x24x128 .fp8e4m3) (harg5 : arg5.IsWhole) (arg6 : Memref sig .tc .vmem S24x28 .f32) (harg6 : arg6.IsWhole)
    (arg7 : Memref sig .tc .vmem S14x64x256 .fp8e4m3) (harg7 : arg7.IsWhole) (arg8 : Memref sig .tc .vmem S28x24x128 .f32) (harg8 : arg8.IsWhole)
    (hc0 : cond0_0 i)
    (x0 : Vec F S24x3584 .bf16) (x1 : Vec F S512x3584 .fp8e4m3) (x2 : Vec F S32x28 .f32) :
    Σ' (L3 : List (View.Piece (Elt F) S24x512 .bf16)), Σ' (L4 : List (View.Piece (Elt F) S28x24x128 .fp8e4m3)),
    Σ' (L5 : List (View.Piece (Elt F) S24x28 .f32)), Σ' (LS0 : List (View.Piece (Elt F) S14x64x256 .fp8e4m3)),
    { LS1 : List (View.Piece (Elt F) S28x24x128 .f32) //
      ∀ (E : Set ℕ) (K : PUnit → sProp 𝕄),
        iprop(owns (c : Thread nD τ) arg1 fullShare x0
            ∗ owns (c : Thread nD τ) arg2 fullShare x1
            ∗ owns (c : Thread nD τ) arg3 fullShare x2
            ∗ (∃ d, owns (c : Thread nD τ) arg4 fullShare d)
            ∗ (∃ d, owns (c : Thread nD τ) arg5 fullShare d)
            ∗ (∃ d, owns (c : Thread nD τ) arg6 fullShare d)
            ∗ (∃ d, owns (c : Thread nD τ) arg7 fullShare d)
            ∗ (∃ d, owns (c : Thread nD τ) arg8 fullShare d)
            ∗ (iprop(owns (c : Thread nD τ) arg1 fullShare x0
              ∗ owns (c : Thread nD τ) arg2 fullShare x1
              ∗ owns (c : Thread nD τ) arg3 fullShare x2
              ∗ (∃ f, arg4.view.loc (c : Thread nD τ) ↦[arg4.view.set]{fullShare} arg4.view.writes (Elt F) f L3)
              ∗ (∃ f, arg5.view.loc (c : Thread nD τ) ↦[arg5.view.set]{fullShare} arg5.view.writes (Elt F) f L4)
              ∗ (∃ f, arg6.view.loc (c : Thread nD τ) ↦[arg6.view.set]{fullShare} arg6.view.writes (Elt F) f L5)
              ∗ (∃ f, arg7.view.loc (c : Thread nD τ) ↦[arg7.view.set]{fullShare} arg7.view.writes (Elt F) f LS0)
              ∗ (∃ f, arg8.view.loc (c : Thread nD τ) ↦[arg8.view.set]{fullShare} arg8.view.writes (Elt F) f LS1)) -∗ K ⟨⟩))
          ⊢ wp frame (wpE (defs₀ (F := F)) Variants.none c none) E (cc0__body i arg1 harg1 arg2 harg2 arg3 harg3 arg4 harg4 arg5 harg5 arg6 harg6 arg7 harg7 arg8 harg8) K } := by
  refine ⟨?_, ?_, ?_, ?_, ?_, fun E K => ?run⟩
  case run =>
    simp only [cc0__body_eq_skeleton]; unfold cc0__body_skel
    simp only [
      k0_part86_eq_skeleton, k0_part84_eq_skeleton, k0_part1_eq_skeleton, k0_part2_eq_skeleton,
      k0_part3_eq_skeleton, k0_part4_eq_skeleton, k0_part5_eq_skeleton, k0_part6_eq_skeleton,
      k0_part7_eq_skeleton, k0_part8_eq_skeleton, k0_part9_eq_skeleton, k0_part10_eq_skeleton,
      k0_part11_eq_skeleton, k0_part12_eq_skeleton, k0_part13_eq_skeleton, k0_part14_eq_skeleton,
      k0_part15_eq_skeleton, k0_part16_eq_skeleton, k0_part17_eq_skeleton, k0_part18_eq_skeleton,
      k0_part19_eq_skeleton, k0_part20_eq_skeleton, k0_part21_eq_skeleton, k0_part22_eq_skeleton,
      k0_part23_eq_skeleton, k0_part24_eq_skeleton, k0_part25_eq_skeleton, k0_part26_eq_skeleton,
      k0_part27_eq_skeleton, k0_part28_eq_skeleton, k0_part29_eq_skeleton, k0_part30_eq_skeleton,
      k0_part31_eq_skeleton, k0_part32_eq_skeleton, k0_part33_eq_skeleton, k0_part34_eq_skeleton,
      k0_part35_eq_skeleton, k0_part36_eq_skeleton, k0_part37_eq_skeleton, k0_part38_eq_skeleton,
      k0_part39_eq_skeleton, k0_part40_eq_skeleton, k0_part41_eq_skeleton, k0_part42_eq_skeleton,
      k0_part43_eq_skeleton, k0_part44_eq_skeleton, k0_part45_eq_skeleton, k0_part46_eq_skeleton,
      k0_part47_eq_skeleton, k0_part48_eq_skeleton, k0_part49_eq_skeleton, k0_part50_eq_skeleton,
      k0_part51_eq_skeleton, k0_part52_eq_skeleton, k0_part53_eq_skeleton, k0_part54_eq_skeleton,
      k0_part55_eq_skeleton, k0_part56_eq_skeleton, k0_part57_eq_skeleton, k0_part58_eq_skeleton,
      k0_part59_eq_skeleton, k0_part60_eq_skeleton, k0_part85_eq_skeleton, k0_part61_eq_skeleton,
      k0_part62_eq_skeleton, k0_part63_eq_skeleton, k0_part64_eq_skeleton, k0_part65_eq_skeleton,
      k0_part66_eq_skeleton, k0_part67_eq_skeleton, k0_part68_eq_skeleton, k0_part69_eq_skeleton,
      k0_part70_eq_skeleton, k0_part71_eq_skeleton, k0_part72_eq_skeleton, k0_part73_eq_skeleton,
      k0_part74_eq_skeleton, k0_part75_eq_skeleton, k0_part76_eq_skeleton, k0_part77_eq_skeleton,
      k0_part78_eq_skeleton, k0_part79_eq_skeleton, k0_part80_eq_skeleton, k0_part81_eq_skeleton,
      k0_part82_eq_skeleton, k0_part83_eq_skeleton, k0_part87_eq_skeleton, k0_part88_eq_skeleton,
      k0_part89_eq_skeleton, k0_part90_eq_skeleton, k0_part91_eq_skeleton, k0_part92_eq_skeleton,
      k0_part93_eq_skeleton, k0_part94_eq_skeleton, k0_part95_eq_skeleton, k0_part96_eq_skeleton,
      k0_part97_eq_skeleton, k0_part98_eq_skeleton, k0_part99_eq_skeleton, k0_part100_eq_skeleton,
      k0_part101_eq_skeleton, k0_part102_eq_skeleton, k0_part103_eq_skeleton, k0_part104_eq_skeleton,
      k0_part105_eq_skeleton, k0_part106_eq_skeleton, k0_part107_eq_skeleton, k0_part108_eq_skeleton,
      k0_part109_eq_skeleton, k0_part110_eq_skeleton, k0_part111_eq_skeleton, k0_part112_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%ds0, %fs0, -, HS0⟩, ⟨%ds1, %fs1, -, HS1⟩, Hk⟩
    obtain rfl := harg1.eq_unread hf0; obtain rfl := harg2.eq_unread hf1; obtain rfl := harg3.eq_unread hf2
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [H4]; · iexists _; iexact H4
    isplitl [H5]; · iexists _; iexact H5
    isplitl [HS0]; · iexists _; iexact HS0
    iexists _; iexact HS1

end Cert.KernelIdeal.Run

end
-- ==== Proof.BodyLater.lean ====
/- The run of the kernel's body at every later grid point, where it multiplies only. -/
module

public import proofs.«01_k».proof.Proof.BodyFirst

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- What the body's stores leave in the staging buffer of the first output at a point that does not take the branch, as a
    list of stored pieces, with the proof that the body, called with the inputs at `x0`, `x1`, `x2` and the two scratch
    buffers at `xs0`, `xs1`, ends with all of these as they were and the output's buffer with its pieces written; the
    buffers of the other two outputs it does not touch. -/
noncomputable def kernelRun0_B (c : Dev nD) (i : grid0.Coords)
    (arg1 : Memref sig .tc .vmem S24x3584 .bf16) (harg1 : arg1.IsWhole) (arg2 : Memref sig .tc .vmem S512x3584 .fp8e4m3) (harg2 : arg2.IsWhole)
    (arg3 : Memref sig .tc .smem S32x28 .f32) (harg3 : arg3.IsWhole) (arg4 : Memref sig .tc .vmem S24x512 .bf16) (harg4 : arg4.IsWhole)
    (arg5 : Memref sig .tc .vmem S28x24x128 .fp8e4m3) (harg5 : arg5.IsWhole) (arg6 : Memref sig .tc .vmem S24x28 .f32) (harg6 : arg6.IsWhole)
    (arg7 : Memref sig .tc .vmem S14x64x256 .fp8e4m3) (harg7 : arg7.IsWhole) (arg8 : Memref sig .tc .vmem S28x24x128 .f32) (harg8 : arg8.IsWhole)
    (hc0 : ¬cond0_0 i)
    (x0 : Vec F S24x3584 .bf16) (x1 : Vec F S512x3584 .fp8e4m3) (x2 : Vec F S32x28 .f32)
    (xs0 : Vec F S14x64x256 .fp8e4m3) (xs1 : Vec F S28x24x128 .f32) :
    { L3 : List (View.Piece (Elt F) S24x512 .bf16) //
      ∀ (E : Set ℕ) (K : PUnit → sProp 𝕄),
        iprop(owns (c : Thread nD τ) arg1 fullShare x0
            ∗ owns (c : Thread nD τ) arg2 fullShare x1
            ∗ owns (c : Thread nD τ) arg3 fullShare x2
            ∗ (∃ d, owns (c : Thread nD τ) arg4 fullShare d)
            ∗ owns (c : Thread nD τ) arg7 fullShare xs0
            ∗ owns (c : Thread nD τ) arg8 fullShare xs1
            ∗ (iprop(owns (c : Thread nD τ) arg1 fullShare x0
              ∗ owns (c : Thread nD τ) arg2 fullShare x1
              ∗ owns (c : Thread nD τ) arg3 fullShare x2
              ∗ (∃ f, arg4.view.loc (c : Thread nD τ) ↦[arg4.view.set]{fullShare} arg4.view.writes (Elt F) f L3)
              ∗ owns (c : Thread nD τ) arg7 fullShare xs0
              ∗ owns (c : Thread nD τ) arg8 fullShare xs1) -∗ K ⟨⟩))
          ⊢ wp frame (wpE (defs₀ (F := F)) Variants.none c none) E (cc0__body i arg1 harg1 arg2 harg2 arg3 harg3 arg4 harg4 arg5 harg5 arg6 harg6 arg7 harg7 arg8 harg8) K } := by
  refine ⟨?_, fun E K => ?run⟩
  case run =>
    simp only [cc0__body_eq_skeleton]; unfold cc0__body_skel
    simp only [
      k0_part86_eq_skeleton, k0_part87_eq_skeleton, k0_part88_eq_skeleton, k0_part89_eq_skeleton,
      k0_part90_eq_skeleton, k0_part91_eq_skeleton, k0_part92_eq_skeleton, k0_part93_eq_skeleton,
      k0_part94_eq_skeleton, k0_part95_eq_skeleton, k0_part96_eq_skeleton, k0_part97_eq_skeleton,
      k0_part98_eq_skeleton, k0_part99_eq_skeleton, k0_part100_eq_skeleton, k0_part101_eq_skeleton,
      k0_part102_eq_skeleton, k0_part103_eq_skeleton, k0_part104_eq_skeleton, k0_part105_eq_skeleton,
      k0_part106_eq_skeleton, k0_part107_eq_skeleton, k0_part108_eq_skeleton, k0_part109_eq_skeleton,
      k0_part110_eq_skeleton, k0_part111_eq_skeleton, k0_part112_eq_skeleton]
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, Hk⟩
    obtain rfl := harg1.eq_unread hf0; obtain rfl := harg2.eq_unread hf1; obtain rfl := harg3.eq_unread hf2
    obtain rfl := harg7.eq_unread hfs0; obtain rfl := harg8.eq_unread hfs1
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [HS0]
    · iexists _; isplitr; · ipureintro; exact harg7.read_unread _
      iexact HS0
    iexists _; isplitr; · ipureintro; exact harg8.read_unread _
    iexact HS1

end Cert.KernelIdeal.Run

end
-- ==== Proof.KernelFrame.lean ====
/- The frame of the kernel: what every buffer holds after each grid point, and from it the run of the whole program. -/
module

public import proofs.«01_k».proof.Proof.BodyLater
public import Idealize.ShloMosaic.Lib.Claim

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the body leaves in each buffer -/

/-- The pieces stored at the first point into the block of the product cover it. -/
theorem cover0_A_3 (c : Dev nD) (i : grid0.Coords)
    (arg1 : Memref sig .tc .vmem S24x3584 .bf16) (harg1 : arg1.IsWhole) (arg2 : Memref sig .tc .vmem S512x3584 .fp8e4m3) (harg2 : arg2.IsWhole)
    (arg3 : Memref sig .tc .smem S32x28 .f32) (harg3 : arg3.IsWhole) (arg4 : Memref sig .tc .vmem S24x512 .bf16) (harg4 : arg4.IsWhole)
    (arg5 : Memref sig .tc .vmem S28x24x128 .fp8e4m3) (harg5 : arg5.IsWhole) (arg6 : Memref sig .tc .vmem S24x28 .f32) (harg6 : arg6.IsWhole)
    (arg7 : Memref sig .tc .vmem S14x64x256 .fp8e4m3) (harg7 : arg7.IsWhole) (arg8 : Memref sig .tc .vmem S28x24x128 .f32) (harg8 : arg8.IsWhole)
    (hc0 : cond0_0 i) (x0 : Vec F S24x3584 .bf16) (x1 : Vec F S512x3584 .fp8e4m3) (x2 : Vec F S32x28 .f32) (y : S24x512.Idx) :
    ∃ pc ∈ (kernelRun0_A c i arg1 harg1 arg2 harg2 arg3 harg3 arg4 harg4 arg5 harg5 arg6 harg6 arg7 harg7 arg8 harg8 hc0 x0 x1 x2).1, y ∈ pc.1.set :=
  View.cover_of_tiledL (kernelRun0_A c i arg1 harg1 arg2 harg2 arg3 harg3 arg4 harg4 arg5 harg5 arg6 harg6 arg7 harg7 arg8 harg8 hc0 x0 x1 x2).1 S24x512.size (by sl_kernel_rfl) y

/-- What the first point leaves in the block of the product: its pieces read back. -/
def out0_A_3 (c : Dev nD) (i : grid0.Coords)
    (arg1 : Memref sig .tc .vmem S24x3584 .bf16) (harg1 : arg1.IsWhole) (arg2 : Memref sig .tc .vmem S512x3584 .fp8e4m3) (harg2 : arg2.IsWhole)
    (arg3 : Memref sig .tc .smem S32x28 .f32) (harg3 : arg3.IsWhole) (arg4 : Memref sig .tc .vmem S24x512 .bf16) (harg4 : arg4.IsWhole)
    (arg5 : Memref sig .tc .vmem S28x24x128 .fp8e4m3) (harg5 : arg5.IsWhole) (arg6 : Memref sig .tc .vmem S24x28 .f32) (harg6 : arg6.IsWhole)
    (arg7 : Memref sig .tc .vmem S14x64x256 .fp8e4m3) (harg7 : arg7.IsWhole) (arg8 : Memref sig .tc .vmem S28x24x128 .f32) (harg8 : arg8.IsWhole)
    (hc0 : cond0_0 i) (x0 : Vec F S24x3584 .bf16) (x1 : Vec F S512x3584 .fp8e4m3) (x2 : Vec F S32x28 .f32) : Vec F S24x512 .bf16 :=
  VO0_3.read (Elt F) (VO0_3.writes (Elt F) VO0_3.junk (kernelRun0_A c i arg1 harg1 arg2 harg2 arg3 harg3 arg4 harg4 arg5 harg5 arg6 harg6 arg7 harg7 arg8 harg8 hc0 x0 x1 x2).1)

/-- The pieces stored at the first point into the codes cover it. -/
theorem cover0_A_4 (c : Dev nD) (i : grid0.Coords)
    (arg1 : Memref sig .tc .vmem S24x3584 .bf16) (harg1 : arg1.IsWhole) (arg2 : Memref sig .tc .vmem S512x3584 .fp8e4m3) (harg2 : arg2.IsWhole)
    (arg3 : Memref sig .tc .smem S32x28 .f32) (harg3 : arg3.IsWhole) (arg4 : Memref sig .tc .vmem S24x512 .bf16) (harg4 : arg4.IsWhole)
    (arg5 : Memref sig .tc .vmem S28x24x128 .fp8e4m3) (harg5 : arg5.IsWhole) (arg6 : Memref sig .tc .vmem S24x28 .f32) (harg6 : arg6.IsWhole)
    (arg7 : Memref sig .tc .vmem S14x64x256 .fp8e4m3) (harg7 : arg7.IsWhole) (arg8 : Memref sig .tc .vmem S28x24x128 .f32) (harg8 : arg8.IsWhole)
    (hc0 : cond0_0 i) (x0 : Vec F S24x3584 .bf16) (x1 : Vec F S512x3584 .fp8e4m3) (x2 : Vec F S32x28 .f32) (y : S28x24x128.Idx) :
    ∃ pc ∈ (kernelRun0_A c i arg1 harg1 arg2 harg2 arg3 harg3 arg4 harg4 arg5 harg5 arg6 harg6 arg7 harg7 arg8 harg8 hc0 x0 x1 x2).2.1, y ∈ pc.1.set :=
  View.cover_of_tiledL (kernelRun0_A c i arg1 harg1 arg2 harg2 arg3 harg3 arg4 harg4 arg5 harg5 arg6 harg6 arg7 harg7 arg8 harg8 hc0 x0 x1 x2).2.1 S1x24x128.size (by sl_kernel_rfl) y

/-- What the first point leaves in the codes: its pieces read back. -/
def out0_A_4 (c : Dev nD) (i : grid0.Coords)
    (arg1 : Memref sig .tc .vmem S24x3584 .bf16) (harg1 : arg1.IsWhole) (arg2 : Memref sig .tc .vmem S512x3584 .fp8e4m3) (harg2 : arg2.IsWhole)
    (arg3 : Memref sig .tc .smem S32x28 .f32) (harg3 : arg3.IsWhole) (arg4 : Memref sig .tc .vmem S24x512 .bf16) (harg4 : arg4.IsWhole)
    (arg5 : Memref sig .tc .vmem S28x24x128 .fp8e4m3) (harg5 : arg5.IsWhole) (arg6 : Memref sig .tc .vmem S24x28 .f32) (harg6 : arg6.IsWhole)
    (arg7 : Memref sig .tc .vmem S14x64x256 .fp8e4m3) (harg7 : arg7.IsWhole) (arg8 : Memref sig .tc .vmem S28x24x128 .f32) (harg8 : arg8.IsWhole)
    (hc0 : cond0_0 i) (x0 : Vec F S24x3584 .bf16) (x1 : Vec F S512x3584 .fp8e4m3) (x2 : Vec F S32x28 .f32) : Vec F S28x24x128 .fp8e4m3 :=
  VO0_4.read (Elt F) (VO0_4.writes (Elt F) VO0_4.junk (kernelRun0_A c i arg1 harg1 arg2 harg2 arg3 harg3 arg4 harg4 arg5 harg5 arg6 harg6 arg7 harg7 arg8 harg8 hc0 x0 x1 x2).2.1)

/-- The pieces stored at the first point into the scales cover it. -/
theorem cover0_A_5 (c : Dev nD) (i : grid0.Coords)
    (arg1 : Memref sig .tc .vmem S24x3584 .bf16) (harg1 : arg1.IsWhole) (arg2 : Memref sig .tc .vmem S512x3584 .fp8e4m3) (harg2 : arg2.IsWhole)
    (arg3 : Memref sig .tc .smem S32x28 .f32) (harg3 : arg3.IsWhole) (arg4 : Memref sig .tc .vmem S24x512 .bf16) (harg4 : arg4.IsWhole)
    (arg5 : Memref sig .tc .vmem S28x24x128 .fp8e4m3) (harg5 : arg5.IsWhole) (arg6 : Memref sig .tc .vmem S24x28 .f32) (harg6 : arg6.IsWhole)
    (arg7 : Memref sig .tc .vmem S14x64x256 .fp8e4m3) (harg7 : arg7.IsWhole) (arg8 : Memref sig .tc .vmem S28x24x128 .f32) (harg8 : arg8.IsWhole)
    (hc0 : cond0_0 i) (x0 : Vec F S24x3584 .bf16) (x1 : Vec F S512x3584 .fp8e4m3) (x2 : Vec F S32x28 .f32) (y : S24x28.Idx) :
    ∃ pc ∈ (kernelRun0_A c i arg1 harg1 arg2 harg2 arg3 harg3 arg4 harg4 arg5 harg5 arg6 harg6 arg7 harg7 arg8 harg8 hc0 x0 x1 x2).2.2.1, y ∈ pc.1.set :=
  View.cover_of_tiledL (kernelRun0_A c i arg1 harg1 arg2 harg2 arg3 harg3 arg4 harg4 arg5 harg5 arg6 harg6 arg7 harg7 arg8 harg8 hc0 x0 x1 x2).2.2.1 S24x28.size (by sl_kernel_rfl) y

/-- What the first point leaves in the scales: its pieces read back. -/
def out0_A_5 (c : Dev nD) (i : grid0.Coords)
    (arg1 : Memref sig .tc .vmem S24x3584 .bf16) (harg1 : arg1.IsWhole) (arg2 : Memref sig .tc .vmem S512x3584 .fp8e4m3) (harg2 : arg2.IsWhole)
    (arg3 : Memref sig .tc .smem S32x28 .f32) (harg3 : arg3.IsWhole) (arg4 : Memref sig .tc .vmem S24x512 .bf16) (harg4 : arg4.IsWhole)
    (arg5 : Memref sig .tc .vmem S28x24x128 .fp8e4m3) (harg5 : arg5.IsWhole) (arg6 : Memref sig .tc .vmem S24x28 .f32) (harg6 : arg6.IsWhole)
    (arg7 : Memref sig .tc .vmem S14x64x256 .fp8e4m3) (harg7 : arg7.IsWhole) (arg8 : Memref sig .tc .vmem S28x24x128 .f32) (harg8 : arg8.IsWhole)
    (hc0 : cond0_0 i) (x0 : Vec F S24x3584 .bf16) (x1 : Vec F S512x3584 .fp8e4m3) (x2 : Vec F S32x28 .f32) : Vec F S24x28 .f32 :=
  VO0_5.read (Elt F) (VO0_5.writes (Elt F) VO0_5.junk (kernelRun0_A c i arg1 harg1 arg2 harg2 arg3 harg3 arg4 harg4 arg5 harg5 arg6 harg6 arg7 harg7 arg8 harg8 hc0 x0 x1 x2).2.2.1)

/-- The pieces stored at the first point into the scratch of block-diagonal codes cover it. -/
theorem cover0_A_s0 (c : Dev nD) (i : grid0.Coords)
    (arg1 : Memref sig .tc .vmem S24x3584 .bf16) (harg1 : arg1.IsWhole) (arg2 : Memref sig .tc .vmem S512x3584 .fp8e4m3) (harg2 : arg2.IsWhole)
    (arg3 : Memref sig .tc .smem S32x28 .f32) (harg3 : arg3.IsWhole) (arg4 : Memref sig .tc .vmem S24x512 .bf16) (harg4 : arg4.IsWhole)
    (arg5 : Memref sig .tc .vmem S28x24x128 .fp8e4m3) (harg5 : arg5.IsWhole) (arg6 : Memref sig .tc .vmem S24x28 .f32) (harg6 : arg6.IsWhole)
    (arg7 : Memref sig .tc .vmem S14x64x256 .fp8e4m3) (harg7 : arg7.IsWhole) (arg8 : Memref sig .tc .vmem S28x24x128 .f32) (harg8 : arg8.IsWhole)
    (hc0 : cond0_0 i) (x0 : Vec F S24x3584 .bf16) (x1 : Vec F S512x3584 .fp8e4m3) (x2 : Vec F S32x28 .f32) (y : S14x64x256.Idx) :
    ∃ pc ∈ (kernelRun0_A c i arg1 harg1 arg2 harg2 arg3 harg3 arg4 harg4 arg5 harg5 arg6 harg6 arg7 harg7 arg8 harg8 hc0 x0 x1 x2).2.2.2.1, y ∈ pc.1.set :=
  View.cover_of_tiledL (kernelRun0_A c i arg1 harg1 arg2 harg2 arg3 harg3 arg4 harg4 arg5 harg5 arg6 harg6 arg7 harg7 arg8 harg8 hc0 x0 x1 x2).2.2.2.1 S1x64x256.size (by sl_kernel_rfl) y

/-- What the first point leaves in the scratch of block-diagonal codes: its pieces read back. -/
def out0_A_s0 (c : Dev nD) (i : grid0.Coords)
    (arg1 : Memref sig .tc .vmem S24x3584 .bf16) (harg1 : arg1.IsWhole) (arg2 : Memref sig .tc .vmem S512x3584 .fp8e4m3) (harg2 : arg2.IsWhole)
    (arg3 : Memref sig .tc .smem S32x28 .f32) (harg3 : arg3.IsWhole) (arg4 : Memref sig .tc .vmem S24x512 .bf16) (harg4 : arg4.IsWhole)
    (arg5 : Memref sig .tc .vmem S28x24x128 .fp8e4m3) (harg5 : arg5.IsWhole) (arg6 : Memref sig .tc .vmem S24x28 .f32) (harg6 : arg6.IsWhole)
    (arg7 : Memref sig .tc .vmem S14x64x256 .fp8e4m3) (harg7 : arg7.IsWhole) (arg8 : Memref sig .tc .vmem S28x24x128 .f32) (harg8 : arg8.IsWhole)
    (hc0 : cond0_0 i) (x0 : Vec F S24x3584 .bf16) (x1 : Vec F S512x3584 .fp8e4m3) (x2 : Vec F S32x28 .f32) : Vec F S14x64x256 .fp8e4m3 :=
  VS0_0.read (Elt F) (VS0_0.writes (Elt F) VS0_0.junk (kernelRun0_A c i arg1 harg1 arg2 harg2 arg3 harg3 arg4 harg4 arg5 harg5 arg6 harg6 arg7 harg7 arg8 harg8 hc0 x0 x1 x2).2.2.2.1)

/-- The pieces stored at the first point into the scratch of scales cover it. -/
theorem cover0_A_s1 (c : Dev nD) (i : grid0.Coords)
    (arg1 : Memref sig .tc .vmem S24x3584 .bf16) (harg1 : arg1.IsWhole) (arg2 : Memref sig .tc .vmem S512x3584 .fp8e4m3) (harg2 : arg2.IsWhole)
    (arg3 : Memref sig .tc .smem S32x28 .f32) (harg3 : arg3.IsWhole) (arg4 : Memref sig .tc .vmem S24x512 .bf16) (harg4 : arg4.IsWhole)
    (arg5 : Memref sig .tc .vmem S28x24x128 .fp8e4m3) (harg5 : arg5.IsWhole) (arg6 : Memref sig .tc .vmem S24x28 .f32) (harg6 : arg6.IsWhole)
    (arg7 : Memref sig .tc .vmem S14x64x256 .fp8e4m3) (harg7 : arg7.IsWhole) (arg8 : Memref sig .tc .vmem S28x24x128 .f32) (harg8 : arg8.IsWhole)
    (hc0 : cond0_0 i) (x0 : Vec F S24x3584 .bf16) (x1 : Vec F S512x3584 .fp8e4m3) (x2 : Vec F S32x28 .f32) (y : S28x24x128.Idx) :
    ∃ pc ∈ (kernelRun0_A c i arg1 harg1 arg2 harg2 arg3 harg3 arg4 harg4 arg5 harg5 arg6 harg6 arg7 harg7 arg8 harg8 hc0 x0 x1 x2).2.2.2.2.1, y ∈ pc.1.set :=
  View.cover_of_tiledL (kernelRun0_A c i arg1 harg1 arg2 harg2 arg3 harg3 arg4 harg4 arg5 harg5 arg6 harg6 arg7 harg7 arg8 harg8 hc0 x0 x1 x2).2.2.2.2.1 S1x24x128.size (by sl_kernel_rfl) y

/-- What the first point leaves in the scratch of scales: its pieces read back. -/
def out0_A_s1 (c : Dev nD) (i : grid0.Coords)
    (arg1 : Memref sig .tc .vmem S24x3584 .bf16) (harg1 : arg1.IsWhole) (arg2 : Memref sig .tc .vmem S512x3584 .fp8e4m3) (harg2 : arg2.IsWhole)
    (arg3 : Memref sig .tc .smem S32x28 .f32) (harg3 : arg3.IsWhole) (arg4 : Memref sig .tc .vmem S24x512 .bf16) (harg4 : arg4.IsWhole)
    (arg5 : Memref sig .tc .vmem S28x24x128 .fp8e4m3) (harg5 : arg5.IsWhole) (arg6 : Memref sig .tc .vmem S24x28 .f32) (harg6 : arg6.IsWhole)
    (arg7 : Memref sig .tc .vmem S14x64x256 .fp8e4m3) (harg7 : arg7.IsWhole) (arg8 : Memref sig .tc .vmem S28x24x128 .f32) (harg8 : arg8.IsWhole)
    (hc0 : cond0_0 i) (x0 : Vec F S24x3584 .bf16) (x1 : Vec F S512x3584 .fp8e4m3) (x2 : Vec F S32x28 .f32) : Vec F S28x24x128 .f32 :=
  VS0_1.read (Elt F) (VS0_1.writes (Elt F) VS0_1.junk (kernelRun0_A c i arg1 harg1 arg2 harg2 arg3 harg3 arg4 harg4 arg5 harg5 arg6 harg6 arg7 harg7 arg8 harg8 hc0 x0 x1 x2).2.2.2.2.1)

/-- The pieces stored at a later point into the block of the product cover it. -/
theorem cover0_B_3 (c : Dev nD) (i : grid0.Coords)
    (arg1 : Memref sig .tc .vmem S24x3584 .bf16) (harg1 : arg1.IsWhole) (arg2 : Memref sig .tc .vmem S512x3584 .fp8e4m3) (harg2 : arg2.IsWhole)
    (arg3 : Memref sig .tc .smem S32x28 .f32) (harg3 : arg3.IsWhole) (arg4 : Memref sig .tc .vmem S24x512 .bf16) (harg4 : arg4.IsWhole)
    (arg5 : Memref sig .tc .vmem S28x24x128 .fp8e4m3) (harg5 : arg5.IsWhole) (arg6 : Memref sig .tc .vmem S24x28 .f32) (harg6 : arg6.IsWhole)
    (arg7 : Memref sig .tc .vmem S14x64x256 .fp8e4m3) (harg7 : arg7.IsWhole) (arg8 : Memref sig .tc .vmem S28x24x128 .f32) (harg8 : arg8.IsWhole)
    (hc0 : ¬cond0_0 i) (x0 : Vec F S24x3584 .bf16) (x1 : Vec F S512x3584 .fp8e4m3) (x2 : Vec F S32x28 .f32)
    (xs0 : Vec F S14x64x256 .fp8e4m3) (xs1 : Vec F S28x24x128 .f32) (y : S24x512.Idx) :
    ∃ pc ∈ (kernelRun0_B c i arg1 harg1 arg2 harg2 arg3 harg3 arg4 harg4 arg5 harg5 arg6 harg6 arg7 harg7 arg8 harg8 hc0 x0 x1 x2 xs0 xs1).1, y ∈ pc.1.set :=
  View.cover_of_tiledL (kernelRun0_B c i arg1 harg1 arg2 harg2 arg3 harg3 arg4 harg4 arg5 harg5 arg6 harg6 arg7 harg7 arg8 harg8 hc0 x0 x1 x2 xs0 xs1).1 S24x512.size (by sl_kernel_rfl) y

/-- What a later point leaves in the block of the product, from what the scratch buffers hold. -/
def out0_B_3 (c : Dev nD) (i : grid0.Coords)
    (arg1 : Memref sig .tc .vmem S24x3584 .bf16) (harg1 : arg1.IsWhole) (arg2 : Memref sig .tc .vmem S512x3584 .fp8e4m3) (harg2 : arg2.IsWhole)
    (arg3 : Memref sig .tc .smem S32x28 .f32) (harg3 : arg3.IsWhole) (arg4 : Memref sig .tc .vmem S24x512 .bf16) (harg4 : arg4.IsWhole)
    (arg5 : Memref sig .tc .vmem S28x24x128 .fp8e4m3) (harg5 : arg5.IsWhole) (arg6 : Memref sig .tc .vmem S24x28 .f32) (harg6 : arg6.IsWhole)
    (arg7 : Memref sig .tc .vmem S14x64x256 .fp8e4m3) (harg7 : arg7.IsWhole) (arg8 : Memref sig .tc .vmem S28x24x128 .f32) (harg8 : arg8.IsWhole)
    (hc0 : ¬cond0_0 i) (x0 : Vec F S24x3584 .bf16) (x1 : Vec F S512x3584 .fp8e4m3) (x2 : Vec F S32x28 .f32)
    (xs0 : Vec F S14x64x256 .fp8e4m3) (xs1 : Vec F S28x24x128 .f32) : Vec F S24x512 .bf16 :=
  VO0_3.read (Elt F) (VO0_3.writes (Elt F) VO0_3.junk (kernelRun0_B c i arg1 harg1 arg2 harg2 arg3 harg3 arg4 harg4 arg5 harg5 arg6 harg6 arg7 harg7 arg8 harg8 hc0 x0 x1 x2 xs0 xs1).1)

/-! ## What the buffers hold after each point -/

/-- The first grid point. -/
abbrev t0 : Fin cfg0.N := ⟨0, by rw [show cfg0.N = 8 from N_0]; omega⟩

/-- What the scratch buffers hold after every point: what the first one left. -/
def scr0 (c : Dev nD) : Vec F S14x64x256 .fp8e4m3 := out0_A_s0 c (grid0.coords t0) (ms0_0 t0) (hs0_0 t0) (ms0_1 t0) (hs0_1 t0) (ms0_2 t0) (hs0_2 t0) (ms0_3 t0) (hs0_3 t0) (ms0_4 t0) (hs0_4 t0) (ms0_5 t0) (hs0_5 t0)
    scM0_0 (Memref.isWhole_whole _) scM0_1 (Memref.isWhole_whole _) ((hcond0_0 t0).mpr (Nat.zero_mod _))
    (iblk m c 0 t0) (iblk m c 1 t0) (iblk m c 2 t0)
def scr1 (c : Dev nD) : Vec F S28x24x128 .f32 := out0_A_s1 c (grid0.coords t0) (ms0_0 t0) (hs0_0 t0) (ms0_1 t0) (hs0_1 t0) (ms0_2 t0) (hs0_2 t0) (ms0_3 t0) (hs0_3 t0) (ms0_4 t0) (hs0_4 t0) (ms0_5 t0) (hs0_5 t0)
    scM0_0 (Memref.isWhole_whole _) scM0_1 (Memref.isWhole_whole _) ((hcond0_0 t0).mpr (Nat.zero_mod _))
    (iblk m c 0 t0) (iblk m c 1 t0) (iblk m c 2 t0)
/-- What the buffers of the codes and of the scales hold after every point: what the first one left. -/
def fin4 (c : Dev nD) : Vec F S28x24x128 .fp8e4m3 := out0_A_4 c (grid0.coords t0) (ms0_0 t0) (hs0_0 t0) (ms0_1 t0) (hs0_1 t0) (ms0_2 t0) (hs0_2 t0) (ms0_3 t0) (hs0_3 t0) (ms0_4 t0) (hs0_4 t0) (ms0_5 t0) (hs0_5 t0)
    scM0_0 (Memref.isWhole_whole _) scM0_1 (Memref.isWhole_whole _) ((hcond0_0 t0).mpr (Nat.zero_mod _))
    (iblk m c 0 t0) (iblk m c 1 t0) (iblk m c 2 t0)
def fin5 (c : Dev nD) : Vec F S24x28 .f32 := out0_A_5 c (grid0.coords t0) (ms0_0 t0) (hs0_0 t0) (ms0_1 t0) (hs0_1 t0) (ms0_2 t0) (hs0_2 t0) (ms0_3 t0) (hs0_3 t0) (ms0_4 t0) (hs0_4 t0) (ms0_5 t0) (hs0_5 t0)
    scM0_0 (Memref.isWhole_whole _) scM0_1 (Memref.isWhole_whole _) ((hcond0_0 t0).mpr (Nat.zero_mod _))
    (iblk m c 0 t0) (iblk m c 1 t0) (iblk m c 2 t0)
/-- What the product's buffer holds after point `t`. -/
def fin3 (c : Dev nD) (t : Fin cfg0.N) : Vec F S24x512 .bf16 :=
  if h0 : t.val % 8 = 0 then out0_A_3 c (grid0.coords t) (ms0_0 t) (hs0_0 t) (ms0_1 t) (hs0_1 t) (ms0_2 t) (hs0_2 t) (ms0_3 t) (hs0_3 t) (ms0_4 t) (hs0_4 t) (ms0_5 t) (hs0_5 t)
    scM0_0 (Memref.isWhole_whole _) scM0_1 (Memref.isWhole_whole _) ((hcond0_0 t).mpr h0)
    (iblk m c 0 t) (iblk m c 1 t) (iblk m c 2 t)
  else out0_B_3 c (grid0.coords t) (ms0_0 t) (hs0_0 t) (ms0_1 t) (hs0_1 t) (ms0_2 t) (hs0_2 t) (ms0_3 t) (hs0_3 t) (ms0_4 t) (hs0_4 t) (ms0_5 t) (hs0_5 t)
    scM0_0 (Memref.isWhole_whole _) scM0_1 (Memref.isWhole_whole _) (fun h => h0 ((hcond0_0 t).mp h))
    (iblk m c 0 t) (iblk m c 1 t) (iblk m c 2 t) (scr0 m c) (scr1 m c)

theorem fin3_A (c : Dev nD) (t : Fin cfg0.N) (h0 : t.val % 8 = 0) :
    fin3 m c t = out0_A_3 c (grid0.coords t) (ms0_0 t) (hs0_0 t) (ms0_1 t) (hs0_1 t) (ms0_2 t) (hs0_2 t) (ms0_3 t) (hs0_3 t) (ms0_4 t) (hs0_4 t) (ms0_5 t) (hs0_5 t)
    scM0_0 (Memref.isWhole_whole _) scM0_1 (Memref.isWhole_whole _) ((hcond0_0 t).mpr h0)
    (iblk m c 0 t) (iblk m c 1 t) (iblk m c 2 t) := dif_pos h0

theorem fin3_B (c : Dev nD) (t : Fin cfg0.N) (h0 : ¬t.val % 8 = 0) :
    fin3 m c t = out0_B_3 c (grid0.coords t) (ms0_0 t) (hs0_0 t) (ms0_1 t) (hs0_1 t) (ms0_2 t) (hs0_2 t) (ms0_3 t) (hs0_3 t) (ms0_4 t) (hs0_4 t) (ms0_5 t) (hs0_5 t)
    scM0_0 (Memref.isWhole_whole _) scM0_1 (Memref.isWhole_whole _) (fun h => h0 ((hcond0_0 t).mp h))
    (iblk m c 0 t) (iblk m c 1 t) (iblk m c 2 t) (scr0 m c) (scr1 m c) := dif_neg h0

/-- The invariant before position `n`: before the first point each scratch buffer at some contents; afterwards at what
    the first point left in it. -/
def PhiS (c : Dev nD) : (n : ℕ) → n ≤ cfg0.N → sProp 𝕄
  | 0, _ => Pipeline.ΦA spec0 c
  | n + 1, hn => iprop(iprop(owns (c : Thread nD τ) scM0_0 fullShare (scr0 m c) ∗ owns (c : Thread nD τ) scM0_1 fullShare (scr1 m c)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare (scr0 m c) ∗ owns (c : Thread nD τ) scM0_1 fullShare (scr1 m c)) ∗ (∃ r, prngReg c r)) := rfl

theorem PhiS_pos (c : Dev nD) (n : ℕ) (h : n ≤ cfg0.N) (hz : n ≠ 0) :
    PhiS m c n h = iprop(iprop(owns (c : Thread nD τ) scM0_0 fullShare (scr0 m c) ∗ owns (c : Thread nD τ) scM0_1 fullShare (scr1 m c)) ∗ (∃ r, prngReg c r)) := by
  cases n with
  | zero => exact absurd rfl hz
  | succ n => rfl

/-! ## The pipeline's proof data -/

/-- The arrays as the region finds them; after each point every input's buffer at its block and every output's at what
    the points up to it leave; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => fin3 m c t
    | ⟨4, _⟩ => fin4 m c
    | ⟨5, _⟩ => fin5 m c
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = fin3 m c t := by dsimp only [dats]
theorem after0_4 (c : Dev nD) (t : Fin cfg0.N) : (dats m 0 c).after 4 t = fin4 m c := by dsimp only [dats]
theorem after0_5 (c : Dev nD) (t : Fin cfg0.N) : (dats m 0 c).after 5 t = fin5 m c := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-- The buffer of the codes is not idle at the first point, and idle at every other. -/
theorem live0_4 (t : Fin cfg0.N) (h : t.val % 8 = 0) : cfg0.idle 4 (grid0.coords t) = false := by
  have h' := (hcond0_0 t).mpr h
  show (!(k0_cond1 (grid0.coords t) == 1#1)) = false
  simp only [cond0_0] at h'
  rw [h']; rfl
theorem idle0_4 (t : Fin cfg0.N) (h : ¬t.val % 8 = 0) : cfg0.idle 4 (grid0.coords t) = true := by
  have h' : ¬ k0_cond1 (grid0.coords t) = 1#1 := fun e => h ((hcond0_0 t).mp e)
  show (!(k0_cond1 (grid0.coords t) == 1#1)) = true
  rw [beq_eq_false_iff_ne.mpr h']; rfl

/-- At every point but the first the buffer of the codes still holds what the first point left in it. -/
theorem before0_4 (c : Dev nD) (n : ℕ) (hn : n < cfg0.N) (hz : n ≠ 0) (d) :
    (dats m 0 c).before 4 ⟨n, hn⟩ d = fin4 m c := by
  have hN : n < 8 := lt_of_lt_of_eq hn (show cfg0.N = 8 from N_0)
  induction n with
  | zero => exact absurd rfl hz
  | succ n ih =>
    have hn' : n < cfg0.N := Nat.lt_of_succ_lt hn
    have hfl : (cfg0.win 4).flush ⟨n, hn'⟩ = false := by
      rw [Bool.eq_false_iff]; intro h
      have := (flush0_4 ⟨n, hn'⟩).mp h
      simp only at this; omega
    refine ((dats m 0 c).before_of_pos 4 ⟨n + 1, hn⟩ hz rfl d).trans ?_
    rw [show (⟨(⟨n + 1, hn⟩ : Fin cfg0.N).val - 1, Nat.lt_of_le_of_lt (Nat.sub_le _ _) hn⟩ : Fin cfg0.N) = ⟨n, hn'⟩ from rfl]
    rw [hfl, if_neg Bool.false_ne_true]
    unfold Dat.left
    by_cases h0 : n = 0
    · subst h0
      rw [live0_4 ⟨0, hn'⟩ (Nat.zero_mod _)]
      dsimp only
      exact after0_4 m c _
    · rw [idle0_4 ⟨n, hn'⟩ (by simp only; omega)]
      exact ih hn' h0 (by omega)

/-- At the first point the buffer of the codes is handed back at its contents. -/
theorem leaves0_4_A (c : Dev nD) (t : Fin cfg0.N) (h : t.val % 8 = 0) :
    (dats m 0 c).leavesExact 4 t = owns (c : Thread nD τ) (ms0_4 t) fullShare (fin4 m c) := by
  unfold Dat.leavesExact; rw [live0_4 t h]; dsimp only; rw [after0_4]

/-- At every other point it is handed back as it was found. -/
theorem leaves0_4_B (c : Dev nD) (t : Fin cfg0.N) (hz : t.val ≠ 0) :
    owns (c : Thread nD τ) (ms0_4 t) fullShare (fin4 m c) ⊢ (dats m 0 c).leavesExact 4 t := by
  have hN : t.val < 8 := lt_of_lt_of_eq t.isLt (show cfg0.N = 8 from N_0)
  unfold Dat.leavesExact; rw [idle0_4 t (by omega)]; dsimp only
  cases (cfg0.win 4).flush t with
  | false =>
    dsimp only
    iintro H; iexists (fin4 m c)
    rw [before0_4 m c t.val t.isLt hz]; iexact H
  | true => dsimp only; rw [after0_4]

/-- The buffer of the scales is not idle at the first point, and idle at every other. -/
theorem live0_5 (t : Fin cfg0.N) (h : t.val % 8 = 0) : cfg0.idle 5 (grid0.coords t) = false := by
  have h' := (hcond0_0 t).mpr h
  show (!(k0_cond1 (grid0.coords t) == 1#1)) = false
  simp only [cond0_0] at h'
  rw [h']; rfl
theorem idle0_5 (t : Fin cfg0.N) (h : ¬t.val % 8 = 0) : cfg0.idle 5 (grid0.coords t) = true := by
  have h' : ¬ k0_cond1 (grid0.coords t) = 1#1 := fun e => h ((hcond0_0 t).mp e)
  show (!(k0_cond1 (grid0.coords t) == 1#1)) = true
  rw [beq_eq_false_iff_ne.mpr h']; rfl

/-- At every point but the first the buffer of the scales still holds what the first point left in it. -/
theorem before0_5 (c : Dev nD) (n : ℕ) (hn : n < cfg0.N) (hz : n ≠ 0) (d) :
    (dats m 0 c).before 5 ⟨n, hn⟩ d = fin5 m c := by
  have hN : n < 8 := lt_of_lt_of_eq hn (show cfg0.N = 8 from N_0)
  induction n with
  | zero => exact absurd rfl hz
  | succ n ih =>
    have hn' : n < cfg0.N := Nat.lt_of_succ_lt hn
    have hfl : (cfg0.win 5).flush ⟨n, hn'⟩ = false := by
      rw [Bool.eq_false_iff]; intro h
      have := (flush0_5 ⟨n, hn'⟩).mp h
      simp only at this; omega
    refine ((dats m 0 c).before_of_pos 5 ⟨n + 1, hn⟩ hz rfl d).trans ?_
    rw [show (⟨(⟨n + 1, hn⟩ : Fin cfg0.N).val - 1, Nat.lt_of_le_of_lt (Nat.sub_le _ _) hn⟩ : Fin cfg0.N) = ⟨n, hn'⟩ from rfl]
    rw [hfl, if_neg Bool.false_ne_true]
    unfold Dat.left
    by_cases h0 : n = 0
    · subst h0
      rw [live0_5 ⟨0, hn'⟩ (Nat.zero_mod _)]
      dsimp only
      exact after0_5 m c _
    · rw [idle0_5 ⟨n, hn'⟩ (by simp only; omega)]
      exact ih hn' h0 (by omega)

/-- At the first point the buffer of the scales is handed back at its contents. -/
theorem leaves0_5_A (c : Dev nD) (t : Fin cfg0.N) (h : t.val % 8 = 0) :
    (dats m 0 c).leavesExact 5 t = owns (c : Thread nD τ) (ms0_5 t) fullShare (fin5 m c) := by
  unfold Dat.leavesExact; rw [live0_5 t h]; dsimp only; rw [after0_5]

/-- At every other point it is handed back as it was found. -/
theorem leaves0_5_B (c : Dev nD) (t : Fin cfg0.N) (hz : t.val ≠ 0) :
    owns (c : Thread nD τ) (ms0_5 t) fullShare (fin5 m c) ⊢ (dats m 0 c).leavesExact 5 t := by
  have hN : t.val < 8 := lt_of_lt_of_eq t.isLt (show cfg0.N = 8 from N_0)
  unfold Dat.leavesExact; rw [idle0_5 t (by omega)]; dsimp only
  cases (cfg0.win 5).flush t with
  | false =>
    dsimp only
    iintro H; iexists (fin5 m c)
    rw [before0_5 m c t.val t.isLt hz]; iexact H
  | true => dsimp only; rw [after0_5]

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ (dats m 0 c).leavesExact 4 t ∗ (dats m 0 c).leavesExact 5 t)

set_option maxHeartbeats 8000000 in
/-- The body at the first point. -/
theorem sound_first (c : Dev nD) (t : Fin cfg0.N) (hz : t.val = 0) :
    bodyPre m c t ⊢ wp frame (wpE (defs₀ (F := F)) Variants.none c none) Set.univ (bodyAt0 t) (fun _ => bodyPost m c t) := by
  obtain rfl : t = t0 := Fin.ext hz
  have h0 : (t0 : Fin cfg0.N).val % 8 = 0 := Nat.zero_mod _
  unfold bodyPre bodyPost bodyAt0
  simp only [before0_0, before0_1, before0_2]
  rw [show (dats m 0 c).owesAt () t0.succ = (dats m 0 c).owesAt () t0.castSucc from rfl,
    after0_0, after0_1, after0_2, after0_3, leaves0_4_A m c t0 h0, leaves0_5_A m c t0 h0]
  rw [show (dats m 0 c).Φ t0.succ = PhiS m c (t0.val + 1) t0.isLt from rfl, PhiS_succ]
  rw [PhiS_castSucc m c t0, PhiS_zero m c _ _ hz, PhiA0_eq]
  rw [fin3_A m c t0 h0]
  unfold fin4 fin5 scr0 scr1 out0_A_3 out0_A_4 out0_A_5 out0_A_s0 out0_A_s1
  iintro ⟨⟨⟨HS0, HS1⟩, Hg⟩, Ho, ⟨%d0, H0⟩, ⟨%d1, H1⟩, ⟨%d2, H2⟩, ⟨%d3, H3⟩, ⟨%d4, H4⟩, ⟨%d5, H5⟩⟩
  iapply ((kernelRun0_A c (grid0.coords t0) _ _ _ _ _ _ _ _ _ _ _ _ _ _ _ _ ((hcond0_0 t0).mpr h0) (iblk m c 0 t0) (iblk m c 1 t0) (iblk m c 2 t0)).2.2.2.2.2 Set.univ _)
  isplitl [H0]; · iexact H0
  isplitl [H1]; · iexact H1
  isplitl [H2]; · iexact H2
  isplitl [H3]; · iexists _; iexact H3
  isplitl [H4]; · iexists _; iexact H4
  isplitl [H5]; · iexists _; iexact H5
  isplitl [HS0]; · iexact HS0
  isplitl [HS1]; · iexact HS1
  iintro ⟨H0, H1, H2, ⟨%e3, H3⟩, ⟨%e4, H4⟩, ⟨%e5, H5⟩, ⟨%es0, HS0⟩, ⟨%es1, HS1⟩⟩
  isplitl [HS0 HS1 Hg]
  · isplitl [HS0 HS1]
    · isplitl [HS0]
      · unfold owns; iexists _; isplitr
        swap; · iexact HS0
        ipureintro; exact View.read_writes_of_cover _ _ _ _ _ (cover0_A_s0 c _ _ _ _ _ _ _ _ _ _ _ _ _ _ _ _ _ _ _ _ _)
      unfold owns; iexists _; isplitr
      swap; · iexact HS1
      ipureintro; exact View.read_writes_of_cover _ _ _ _ _ (cover0_A_s1 c _ _ _ _ _ _ _ _ _ _ _ _ _ _ _ _ _ _ _ _ _)
    iexact Hg
  isplitl [Ho]; · iexact Ho
  isplitl [H0]; · iexact H0
  isplitl [H1]; · iexact H1
  isplitl [H2]; · iexact H2
  isplitl [H3]
  · unfold owns; iexists _; isplitr
    swap; · iexact H3
    ipureintro; exact View.read_writes_of_cover _ _ _ _ _ (cover0_A_3 c _ _ _ _ _ _ _ _ _ _ _ _ _ _ _ _ _ _ _ _ _)
  isplitl [H4]
  · unfold owns; iexists _; isplitr
    swap; · iexact H4
    ipureintro; exact View.read_writes_of_cover _ _ _ _ _ (cover0_A_4 c _ _ _ _ _ _ _ _ _ _ _ _ _ _ _ _ _ _ _ _ _)
  unfold owns; iexists _; isplitr
  swap; · iexact H5
  ipureintro; exact View.read_writes_of_cover _ _ _ _ _ (cover0_A_5 c _ _ _ _ _ _ _ _ _ _ _ _ _ _ _ _ _ _ _ _ _)

set_option maxHeartbeats 8000000 in
/-- The body at a later point. -/
theorem sound_later (c : Dev nD) (t : Fin cfg0.N) (hz : t.val ≠ 0) :
    bodyPre m c t ⊢ wp frame (wpE (defs₀ (F := F)) Variants.none c none) Set.univ (bodyAt0 t) (fun _ => bodyPost m c t) := by
  have hN : t.val < 8 := lt_of_lt_of_eq t.isLt (show cfg0.N = 8 from N_0)
  have h0 : ¬t.val % 8 = 0 := by omega
  have b4 : ∀ d, (dats m 0 c).before 4 t d = fin4 m c := before0_4 m c t.val t.isLt hz
  have b5 : ∀ d, (dats m 0 c).before 5 t d = fin5 m c := before0_5 m c t.val t.isLt hz
  unfold bodyPre bodyPost bodyAt0
  simp only [before0_0, before0_1, before0_2, b4, b5]
  rw [show (dats m 0 c).owesAt () t.succ = (dats m 0 c).owesAt () t.castSucc from rfl,
    after0_0, after0_1, after0_2, after0_3]
  rw [show (dats m 0 c).Φ t.succ = PhiS m c (t.val + 1) t.isLt from rfl, PhiS_succ]
  rw [PhiS_castSucc m c t, PhiS_pos m c _ _ hz]
  rw [fin3_B m c t h0]
  unfold out0_B_3
  iintro ⟨⟨⟨HS0, HS1⟩, Hg⟩, Ho, ⟨%d0, H0⟩, ⟨%d1, H1⟩, ⟨%d2, H2⟩, ⟨%d3, H3⟩, ⟨%d4, H4⟩, ⟨%d5, H5⟩⟩
  iapply ((kernelRun0_B c (grid0.coords t) _ _ _ _ _ _ _ _ (ms0_4 t) (hs0_4 t) (ms0_5 t) (hs0_5 t) _ _ _ _ (fun h => h0 ((hcond0_0 t).mp h)) (iblk m c 0 t) (iblk m c 1 t) (iblk m c 2 t) _ _).2 Set.univ _)
  isplitl [H0]; · iexact H0
  isplitl [H1]; · iexact H1
  isplitl [H2]; · iexact H2
  isplitl [H3]; · iexists _; iexact H3
  isplitl [HS0]; · iexact HS0
  isplitl [HS1]; · iexact HS1
  iintro ⟨H0, H1, H2, ⟨%e3, H3⟩, HS0, HS1⟩
  isplitl [HS0 HS1 Hg]
  · isplitl [HS0 HS1]
    · isplitl [HS0]
      · iexact HS0
      iexact HS1
    iexact Hg
  isplitl [Ho]; · iexact Ho
  isplitl [H0]; · iexact H0
  isplitl [H1]; · iexact H1
  isplitl [H2]; · iexact H2
  isplitl [H3]
  · unfold owns; iexists _; isplitr
    swap; · iexact H3
    ipureintro; exact View.read_writes_of_cover _ _ _ _ _ (cover0_B_3 c _ _ _ _ _ _ _ _ _ (ms0_4 t) (hs0_4 t) (ms0_5 t) (hs0_5 t) _ _ _ _ _ _ _ _ _ _)
  isplitl [H4]
  · iapply (leaves0_4_B m c t hz); iexact H4
  iapply (leaves0_5_B m c t hz); iexact H5

/-- The body at any point. -/
theorem sound_body (c : Dev nD) (t : Fin cfg0.N) :
    bodyPre m c t ⊢ wp frame (wpE (defs₀ (F := F)) Variants.none c none) Set.univ (bodyAt0 t) (fun _ => bodyPost m c t) := by
  by_cases hz : t.val = 0
  · exact sound_first m c t hz
  · exact sound_later m c t hz

/-- The body table's row at point `t`'s slots is the body. -/
theorem defs₀_row (t : Fin cfg0.N) :
    defs₀ (F := F) .tc cfg0.body (cfg0.bodyArgs t (cfg0.slots t)) = bodyAt0 t := by
  unfold defs₀; rw [Defs.onTc_tc]

/-- The body obligation of the pipeline, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point the invariant gives back what the launch handed: the scratch buffers' contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1⟩, Hg⟩
  isplitl [HS0 HS1]
  · isplitl [HS0]
    · iexists _; iexact HS0
    iexists _; iexact HS1
  iexact Hg

theorem hout (c : Dev nD) : (dats m 0 c).Φ (Fin.last cfg0.N) ⊢ Pipeline.ΦA spec0 c :=
  Phi_out m c _ (by rw [Fin.val_last]; have : cfg0.N = 8 := N_0; omega)

/-! ## The run and the frame -/

set_option backward.isDefEq.respectTransparency.types false in
/-- Every weakly fair execution terminates with every array of the pipeline at what the proof data say, every other
    unscoped buffer as the region found it, and every semaphore counter at zero. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub)
    (hfresh := sfx_fresh) (hkeep := sfx_keeps) (hmain := hmain m Variants.none) (hA := A_eq m) (hin := hin m) (hout := hout m)

/-- The same without the counters. -/
theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

/-- The frame: every execution ends with the arguments unchanged and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.KernelIdeal.Run

end
-- ==== Proof.Printed.Points.lean ====
/- The grid points of the kernel: which of them take the branch that quantises the activations, the buffers the body is
   called with at a point, and the invariant that the two scratch buffers are in. -/
module

public import proofs.«01_k».proof.Proof.Gen.Kernel.Frame
public import proofs.«01_k».proof.Proof.Gen.Kernel.Skeleton

@[expose] public section

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The condition of the body's branch, from the grid coordinates. -/
abbrev cond0_0 (i : grid0.Coords) : Prop := k0_cond1 i = 1#1

/-- The branch is taken at the first point only. -/
theorem hcond0_0 : ∀ t : Fin cfg0.N, cond0_0 (grid0.coords t) ↔ t.val % 8 = 0 :=
  (fun t => by
    have ht : t.val < 8 := Nat.lt_of_lt_of_eq t.isLt N_0
    have e0 : (grid0.coords t 0).val = t.val / 1 % 8 := Pipeline.Grid.coords_val t 0 (by decide) rfl
    simp only [cond0_0, k0_cond1, e0]
    word_cmp
   : ∀ t : Fin grid0.N, cond0_0 (grid0.coords t) ↔ t.val % 8 = 0)

/-- One staging buffer of each output window, through which its contents are stated. -/
abbrev VO0_3 : View sig .tc .vmem S24x512 .bf16 := (Memref.whole cc0_stg3_0 : Memref sig .tc .vmem S24x512 .bf16).view
abbrev VO0_4 : View sig .tc .vmem S28x24x128 .fp8e4m3 := (Memref.whole cc0_stg4_0 : Memref sig .tc .vmem S28x24x128 .fp8e4m3).view
abbrev VO0_5 : View sig .tc .vmem S24x28 .f32 := (Memref.whole cc0_stg5_0 : Memref sig .tc .vmem S24x28 .f32).view

/-- Each window's current staging memref at point `t`, and its wholeness. -/
abbrev ms0_0 (t : Fin cfg0.N) : Memref sig .tc .vmem S24x3584 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x3584 .fp8e4m3 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .smem S32x28 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S24x512 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S28x24x128 .fp8e4m3 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S24x28 .f32 := win0_5.stage (cfg0.slots t 5)
abbrev hs0_5 (t : Fin cfg0.N) : (ms0_5 t).IsWhole := hstage0_5 ((cfg0.slots t 5).cast nbuf0_5)

/-- The scratch operands: the block-diagonal codes and the scales, each a whole buffer of the kernel's own. -/
abbrev scM0_0 : Memref sig .tc .vmem S14x64x256 .fp8e4m3 := Memref.whole cc0_scratch0
abbrev scM0_1 : Memref sig .tc .vmem S28x24x128 .f32 := Memref.whole cc0_scratch1
/-- The two scratch buffers as views: what they hold is stated through them. -/
abbrev VS0_0 : View sig .tc .vmem S14x64x256 .fp8e4m3 := scM0_0.view
abbrev VS0_1 : View sig .tc .vmem S28x24x128 .f32 := scM0_1.view

/-- The invariant at entry: each scratch buffer at some contents, the generator register at some state. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.Kernel.Run

end
-- ==== Proof.Printed.BodyFirst.lean ====
/- The run of the kernel's body at the first grid point, where it quantises the activations and multiplies. -/
module

public import proofs.«01_k».proof.Proof.Printed.Points

@[expose] public section

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- What the body's stores leave in each output's staging buffer and in each scratch buffer at a point that takes the
    branch, as lists of stored pieces (the last one first), with the proof that the body, called with the inputs at
    `x0`, `x1`, `x2` and everything else at some contents, ends with the inputs as they were and each other buffer
    with its pieces written. -/
noncomputable def kernelRun0_A (c : Dev nD) (i : grid0.Coords)
    (arg1 : Memref sig .tc .vmem S24x3584 .bf16) (harg1 : arg1.IsWhole) (arg2 : Memref sig .tc .vmem S512x3584 .fp8e4m3) (harg2 : arg2.IsWhole)
    (arg3 : Memref sig .tc .smem S32x28 .f32) (harg3 : arg3.IsWhole) (arg4 : Memref sig .tc .vmem S24x512 .bf16) (harg4 : arg4.IsWhole)
    (arg5 : Memref sig .tc .vmem S28x24x128 .fp8e4m3) (harg5 : arg5.IsWhole) (arg6 : Memref sig .tc .vmem S24x28 .f32) (harg6 : arg6.IsWhole)
    (arg7 : Memref sig .tc .vmem S14x64x256 .fp8e4m3) (harg7 : arg7.IsWhole) (arg8 : Memref sig .tc .vmem S28x24x128 .f32) (harg8 : arg8.IsWhole)
    (hc0 : cond0_0 i)
    (x0 : Vec F S24x3584 .bf16) (x1 : Vec F S512x3584 .fp8e4m3) (x2 : Vec F S32x28 .f32) :
    Σ' (L3 : List (View.Piece (Elt F) S24x512 .bf16)), Σ' (L4 : List (View.Piece (Elt F) S28x24x128 .fp8e4m3)),
    Σ' (L5 : List (View.Piece (Elt F) S24x28 .f32)), Σ' (LS0 : List (View.Piece (Elt F) S14x64x256 .fp8e4m3)),
    { LS1 : List (View.Piece (Elt F) S28x24x128 .f32) //
      ∀ (E : Set ℕ) (K : PUnit → sProp 𝕄),
        iprop(owns (c : Thread nD τ) arg1 fullShare x0
            ∗ owns (c : Thread nD τ) arg2 fullShare x1
            ∗ owns (c : Thread nD τ) arg3 fullShare x2
            ∗ (∃ d, owns (c : Thread nD τ) arg4 fullShare d)
            ∗ (∃ d, owns (c : Thread nD τ) arg5 fullShare d)
            ∗ (∃ d, owns (c : Thread nD τ) arg6 fullShare d)
            ∗ (∃ d, owns (c : Thread nD τ) arg7 fullShare d)
            ∗ (∃ d, owns (c : Thread nD τ) arg8 fullShare d)
            ∗ (iprop(owns (c : Thread nD τ) arg1 fullShare x0
              ∗ owns (c : Thread nD τ) arg2 fullShare x1
              ∗ owns (c : Thread nD τ) arg3 fullShare x2
              ∗ (∃ f, arg4.view.loc (c : Thread nD τ) ↦[arg4.view.set]{fullShare} arg4.view.writes (Elt F) f L3)
              ∗ (∃ f, arg5.view.loc (c : Thread nD τ) ↦[arg5.view.set]{fullShare} arg5.view.writes (Elt F) f L4)
              ∗ (∃ f, arg6.view.loc (c : Thread nD τ) ↦[arg6.view.set]{fullShare} arg6.view.writes (Elt F) f L5)
              ∗ (∃ f, arg7.view.loc (c : Thread nD τ) ↦[arg7.view.set]{fullShare} arg7.view.writes (Elt F) f LS0)
              ∗ (∃ f, arg8.view.loc (c : Thread nD τ) ↦[arg8.view.set]{fullShare} arg8.view.writes (Elt F) f LS1)) -∗ K ⟨⟩))
          ⊢ wp frame (wpE (defs₀ (F := F)) Variants.none c none) E (cc0__body i arg1 harg1 arg2 harg2 arg3 harg3 arg4 harg4 arg5 harg5 arg6 harg6 arg7 harg7 arg8 harg8) K } := by
  refine ⟨?_, ?_, ?_, ?_, ?_, fun E K => ?run⟩
  case run =>
    simp only [cc0__body_eq_skeleton]; unfold cc0__body_skel
    simp only [
      k0_part86_eq_skeleton, k0_part84_eq_skeleton, k0_part1_eq_skeleton, k0_part2_eq_skeleton,
      k0_part3_eq_skeleton, k0_part4_eq_skeleton, k0_part5_eq_skeleton, k0_part6_eq_skeleton,
      k0_part7_eq_skeleton, k0_part8_eq_skeleton, k0_part9_eq_skeleton, k0_part10_eq_skeleton,
      k0_part11_eq_skeleton, k0_part12_eq_skeleton, k0_part13_eq_skeleton, k0_part14_eq_skeleton,
      k0_part15_eq_skeleton, k0_part16_eq_skeleton, k0_part17_eq_skeleton, k0_part18_eq_skeleton,
      k0_part19_eq_skeleton, k0_part20_eq_skeleton, k0_part21_eq_skeleton, k0_part22_eq_skeleton,
      k0_part23_eq_skeleton, k0_part24_eq_skeleton, k0_part25_eq_skeleton, k0_part26_eq_skeleton,
      k0_part27_eq_skeleton, k0_part28_eq_skeleton, k0_part29_eq_skeleton, k0_part30_eq_skeleton,
      k0_part31_eq_skeleton, k0_part32_eq_skeleton, k0_part33_eq_skeleton, k0_part34_eq_skeleton,
      k0_part35_eq_skeleton, k0_part36_eq_skeleton, k0_part37_eq_skeleton, k0_part38_eq_skeleton,
      k0_part39_eq_skeleton, k0_part40_eq_skeleton, k0_part41_eq_skeleton, k0_part42_eq_skeleton,
      k0_part43_eq_skeleton, k0_part44_eq_skeleton, k0_part45_eq_skeleton, k0_part46_eq_skeleton,
      k0_part47_eq_skeleton, k0_part48_eq_skeleton, k0_part49_eq_skeleton, k0_part50_eq_skeleton,
      k0_part51_eq_skeleton, k0_part52_eq_skeleton, k0_part53_eq_skeleton, k0_part54_eq_skeleton,
      k0_part55_eq_skeleton, k0_part56_eq_skeleton, k0_part57_eq_skeleton, k0_part58_eq_skeleton,
      k0_part59_eq_skeleton, k0_part60_eq_skeleton, k0_part85_eq_skeleton, k0_part61_eq_skeleton,
      k0_part62_eq_skeleton, k0_part63_eq_skeleton, k0_part64_eq_skeleton, k0_part65_eq_skeleton,
      k0_part66_eq_skeleton, k0_part67_eq_skeleton, k0_part68_eq_skeleton, k0_part69_eq_skeleton,
      k0_part70_eq_skeleton, k0_part71_eq_skeleton, k0_part72_eq_skeleton, k0_part73_eq_skeleton,
      k0_part74_eq_skeleton, k0_part75_eq_skeleton, k0_part76_eq_skeleton, k0_part77_eq_skeleton,
      k0_part78_eq_skeleton, k0_part79_eq_skeleton, k0_part80_eq_skeleton, k0_part81_eq_skeleton,
      k0_part82_eq_skeleton, k0_part83_eq_skeleton, k0_part87_eq_skeleton, k0_part88_eq_skeleton,
      k0_part89_eq_skeleton, k0_part90_eq_skeleton, k0_part91_eq_skeleton, k0_part92_eq_skeleton,
      k0_part93_eq_skeleton, k0_part94_eq_skeleton, k0_part95_eq_skeleton, k0_part96_eq_skeleton,
      k0_part97_eq_skeleton, k0_part98_eq_skeleton, k0_part99_eq_skeleton, k0_part100_eq_skeleton,
      k0_part101_eq_skeleton, k0_part102_eq_skeleton, k0_part103_eq_skeleton, k0_part104_eq_skeleton,
      k0_part105_eq_skeleton, k0_part106_eq_skeleton, k0_part107_eq_skeleton, k0_part108_eq_skeleton,
      k0_part109_eq_skeleton, k0_part110_eq_skeleton, k0_part111_eq_skeleton, k0_part112_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%ds0, %fs0, -, HS0⟩, ⟨%ds1, %fs1, -, HS1⟩, Hk⟩
    obtain rfl := harg1.eq_unread hf0; obtain rfl := harg2.eq_unread hf1; obtain rfl := harg3.eq_unread hf2
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [H4]; · iexists _; iexact H4
    isplitl [H5]; · iexists _; iexact H5
    isplitl [HS0]; · iexists _; iexact HS0
    iexists _; iexact HS1

end Cert.Kernel.Run

end
-- ==== Proof.Printed.BodyLater.lean ====
/- The run of the kernel's body at every later grid point, where it multiplies only. -/
module

public import proofs.«01_k».proof.Proof.Printed.BodyFirst

@[expose] public section

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- What the body's stores leave in the staging buffer of the first output at a point that does not take the branch, as a
    list of stored pieces, with the proof that the body, called with the inputs at `x0`, `x1`, `x2` and the two scratch
    buffers at `xs0`, `xs1`, ends with all of these as they were and the output's buffer with its pieces written; the
    buffers of the other two outputs it does not touch. -/
noncomputable def kernelRun0_B (c : Dev nD) (i : grid0.Coords)
    (arg1 : Memref sig .tc .vmem S24x3584 .bf16) (harg1 : arg1.IsWhole) (arg2 : Memref sig .tc .vmem S512x3584 .fp8e4m3) (harg2 : arg2.IsWhole)
    (arg3 : Memref sig .tc .smem S32x28 .f32) (harg3 : arg3.IsWhole) (arg4 : Memref sig .tc .vmem S24x512 .bf16) (harg4 : arg4.IsWhole)
    (arg5 : Memref sig .tc .vmem S28x24x128 .fp8e4m3) (harg5 : arg5.IsWhole) (arg6 : Memref sig .tc .vmem S24x28 .f32) (harg6 : arg6.IsWhole)
    (arg7 : Memref sig .tc .vmem S14x64x256 .fp8e4m3) (harg7 : arg7.IsWhole) (arg8 : Memref sig .tc .vmem S28x24x128 .f32) (harg8 : arg8.IsWhole)
    (hc0 : ¬cond0_0 i)
    (x0 : Vec F S24x3584 .bf16) (x1 : Vec F S512x3584 .fp8e4m3) (x2 : Vec F S32x28 .f32)
    (xs0 : Vec F S14x64x256 .fp8e4m3) (xs1 : Vec F S28x24x128 .f32) :
    { L3 : List (View.Piece (Elt F) S24x512 .bf16) //
      ∀ (E : Set ℕ) (K : PUnit → sProp 𝕄),
        iprop(owns (c : Thread nD τ) arg1 fullShare x0
            ∗ owns (c : Thread nD τ) arg2 fullShare x1
            ∗ owns (c : Thread nD τ) arg3 fullShare x2
            ∗ (∃ d, owns (c : Thread nD τ) arg4 fullShare d)
            ∗ owns (c : Thread nD τ) arg7 fullShare xs0
            ∗ owns (c : Thread nD τ) arg8 fullShare xs1
            ∗ (iprop(owns (c : Thread nD τ) arg1 fullShare x0
              ∗ owns (c : Thread nD τ) arg2 fullShare x1
              ∗ owns (c : Thread nD τ) arg3 fullShare x2
              ∗ (∃ f, arg4.view.loc (c : Thread nD τ) ↦[arg4.view.set]{fullShare} arg4.view.writes (Elt F) f L3)
              ∗ owns (c : Thread nD τ) arg7 fullShare xs0
              ∗ owns (c : Thread nD τ) arg8 fullShare xs1) -∗ K ⟨⟩))
          ⊢ wp frame (wpE (defs₀ (F := F)) Variants.none c none) E (cc0__body i arg1 harg1 arg2 harg2 arg3 harg3 arg4 harg4 arg5 harg5 arg6 harg6 arg7 harg7 arg8 harg8) K } := by
  refine ⟨?_, fun E K => ?run⟩
  case run =>
    simp only [cc0__body_eq_skeleton]; unfold cc0__body_skel
    simp only [
      k0_part86_eq_skeleton, k0_part87_eq_skeleton, k0_part88_eq_skeleton, k0_part89_eq_skeleton,
      k0_part90_eq_skeleton, k0_part91_eq_skeleton, k0_part92_eq_skeleton, k0_part93_eq_skeleton,
      k0_part94_eq_skeleton, k0_part95_eq_skeleton, k0_part96_eq_skeleton, k0_part97_eq_skeleton,
      k0_part98_eq_skeleton, k0_part99_eq_skeleton, k0_part100_eq_skeleton, k0_part101_eq_skeleton,
      k0_part102_eq_skeleton, k0_part103_eq_skeleton, k0_part104_eq_skeleton, k0_part105_eq_skeleton,
      k0_part106_eq_skeleton, k0_part107_eq_skeleton, k0_part108_eq_skeleton, k0_part109_eq_skeleton,
      k0_part110_eq_skeleton, k0_part111_eq_skeleton, k0_part112_eq_skeleton]
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, Hk⟩
    obtain rfl := harg1.eq_unread hf0; obtain rfl := harg2.eq_unread hf1; obtain rfl := harg3.eq_unread hf2
    obtain rfl := harg7.eq_unread hfs0; obtain rfl := harg8.eq_unread hfs1
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [HS0]
    · iexists _; isplitr; · ipureintro; exact harg7.read_unread _
      iexact HS0
    iexists _; isplitr; · ipureintro; exact harg8.read_unread _
    iexact HS1

end Cert.Kernel.Run

end
-- ==== Proof.Printed.KernelFrame.lean ====
/- The frame of the kernel: what every buffer holds after each grid point, and from it the run of the whole program. -/
module

public import proofs.«01_k».proof.Proof.Printed.BodyLater
public import Idealize.ShloMosaic.Lib.Claim

@[expose] public section

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the body leaves in each buffer -/

/-- The pieces stored at the first point into the block of the product cover it. -/
theorem cover0_A_3 (c : Dev nD) (i : grid0.Coords)
    (arg1 : Memref sig .tc .vmem S24x3584 .bf16) (harg1 : arg1.IsWhole) (arg2 : Memref sig .tc .vmem S512x3584 .fp8e4m3) (harg2 : arg2.IsWhole)
    (arg3 : Memref sig .tc .smem S32x28 .f32) (harg3 : arg3.IsWhole) (arg4 : Memref sig .tc .vmem S24x512 .bf16) (harg4 : arg4.IsWhole)
    (arg5 : Memref sig .tc .vmem S28x24x128 .fp8e4m3) (harg5 : arg5.IsWhole) (arg6 : Memref sig .tc .vmem S24x28 .f32) (harg6 : arg6.IsWhole)
    (arg7 : Memref sig .tc .vmem S14x64x256 .fp8e4m3) (harg7 : arg7.IsWhole) (arg8 : Memref sig .tc .vmem S28x24x128 .f32) (harg8 : arg8.IsWhole)
    (hc0 : cond0_0 i) (x0 : Vec F S24x3584 .bf16) (x1 : Vec F S512x3584 .fp8e4m3) (x2 : Vec F S32x28 .f32) (y : S24x512.Idx) :
    ∃ pc ∈ (kernelRun0_A c i arg1 harg1 arg2 harg2 arg3 harg3 arg4 harg4 arg5 harg5 arg6 harg6 arg7 harg7 arg8 harg8 hc0 x0 x1 x2).1, y ∈ pc.1.set :=
  View.cover_of_tiledL (kernelRun0_A c i arg1 harg1 arg2 harg2 arg3 harg3 arg4 harg4 arg5 harg5 arg6 harg6 arg7 harg7 arg8 harg8 hc0 x0 x1 x2).1 S24x512.size (by sl_kernel_rfl) y

/-- What the first point leaves in the block of the product: its pieces read back. -/
def out0_A_3 (c : Dev nD) (i : grid0.Coords)
    (arg1 : Memref sig .tc .vmem S24x3584 .bf16) (harg1 : arg1.IsWhole) (arg2 : Memref sig .tc .vmem S512x3584 .fp8e4m3) (harg2 : arg2.IsWhole)
    (arg3 : Memref sig .tc .smem S32x28 .f32) (harg3 : arg3.IsWhole) (arg4 : Memref sig .tc .vmem S24x512 .bf16) (harg4 : arg4.IsWhole)
    (arg5 : Memref sig .tc .vmem S28x24x128 .fp8e4m3) (harg5 : arg5.IsWhole) (arg6 : Memref sig .tc .vmem S24x28 .f32) (harg6 : arg6.IsWhole)
    (arg7 : Memref sig .tc .vmem S14x64x256 .fp8e4m3) (harg7 : arg7.IsWhole) (arg8 : Memref sig .tc .vmem S28x24x128 .f32) (harg8 : arg8.IsWhole)
    (hc0 : cond0_0 i) (x0 : Vec F S24x3584 .bf16) (x1 : Vec F S512x3584 .fp8e4m3) (x2 : Vec F S32x28 .f32) : Vec F S24x512 .bf16 :=
  VO0_3.read (Elt F) (VO0_3.writes (Elt F) VO0_3.junk (kernelRun0_A c i arg1 harg1 arg2 harg2 arg3 harg3 arg4 harg4 arg5 harg5 arg6 harg6 arg7 harg7 arg8 harg8 hc0 x0 x1 x2).1)

/-- The pieces stored at the first point into the codes cover it. -/
theorem cover0_A_4 (c : Dev nD) (i : grid0.Coords)
    (arg1 : Memref sig .tc .vmem S24x3584 .bf16) (harg1 : arg1.IsWhole) (arg2 : Memref sig .tc .vmem S512x3584 .fp8e4m3) (harg2 : arg2.IsWhole)
    (arg3 : Memref sig .tc .smem S32x28 .f32) (harg3 : arg3.IsWhole) (arg4 : Memref sig .tc .vmem S24x512 .bf16) (harg4 : arg4.IsWhole)
    (arg5 : Memref sig .tc .vmem S28x24x128 .fp8e4m3) (harg5 : arg5.IsWhole) (arg6 : Memref sig .tc .vmem S24x28 .f32) (harg6 : arg6.IsWhole)
    (arg7 : Memref sig .tc .vmem S14x64x256 .fp8e4m3) (harg7 : arg7.IsWhole) (arg8 : Memref sig .tc .vmem S28x24x128 .f32) (harg8 : arg8.IsWhole)
    (hc0 : cond0_0 i) (x0 : Vec F S24x3584 .bf16) (x1 : Vec F S512x3584 .fp8e4m3) (x2 : Vec F S32x28 .f32) (y : S28x24x128.Idx) :
    ∃ pc ∈ (kernelRun0_A c i arg1 harg1 arg2 harg2 arg3 harg3 arg4 harg4 arg5 harg5 arg6 harg6 arg7 harg7 arg8 harg8 hc0 x0 x1 x2).2.1, y ∈ pc.1.set :=
  View.cover_of_tiledL (kernelRun0_A c i arg1 harg1 arg2 harg2 arg3 harg3 arg4 harg4 arg5 harg5 arg6 harg6 arg7 harg7 arg8 harg8 hc0 x0 x1 x2).2.1 S1x24x128.size (by sl_kernel_rfl) y

/-- What the first point leaves in the codes: its pieces read back. -/
def out0_A_4 (c : Dev nD) (i : grid0.Coords)
    (arg1 : Memref sig .tc .vmem S24x3584 .bf16) (harg1 : arg1.IsWhole) (arg2 : Memref sig .tc .vmem S512x3584 .fp8e4m3) (harg2 : arg2.IsWhole)
    (arg3 : Memref sig .tc .smem S32x28 .f32) (harg3 : arg3.IsWhole) (arg4 : Memref sig .tc .vmem S24x512 .bf16) (harg4 : arg4.IsWhole)
    (arg5 : Memref sig .tc .vmem S28x24x128 .fp8e4m3) (harg5 : arg5.IsWhole) (arg6 : Memref sig .tc .vmem S24x28 .f32) (harg6 : arg6.IsWhole)
    (arg7 : Memref sig .tc .vmem S14x64x256 .fp8e4m3) (harg7 : arg7.IsWhole) (arg8 : Memref sig .tc .vmem S28x24x128 .f32) (harg8 : arg8.IsWhole)
    (hc0 : cond0_0 i) (x0 : Vec F S24x3584 .bf16) (x1 : Vec F S512x3584 .fp8e4m3) (x2 : Vec F S32x28 .f32) : Vec F S28x24x128 .fp8e4m3 :=
  VO0_4.read (Elt F) (VO0_4.writes (Elt F) VO0_4.junk (kernelRun0_A c i arg1 harg1 arg2 harg2 arg3 harg3 arg4 harg4 arg5 harg5 arg6 harg6 arg7 harg7 arg8 harg8 hc0 x0 x1 x2).2.1)

/-- The pieces stored at the first point into the scales cover it. -/
theorem cover0_A_5 (c : Dev nD) (i : grid0.Coords)
    (arg1 : Memref sig .tc .vmem S24x3584 .bf16) (harg1 : arg1.IsWhole) (arg2 : Memref sig .tc .vmem S512x3584 .fp8e4m3) (harg2 : arg2.IsWhole)
    (arg3 : Memref sig .tc .smem S32x28 .f32) (harg3 : arg3.IsWhole) (arg4 : Memref sig .tc .vmem S24x512 .bf16) (harg4 : arg4.IsWhole)
    (arg5 : Memref sig .tc .vmem S28x24x128 .fp8e4m3) (harg5 : arg5.IsWhole) (arg6 : Memref sig .tc .vmem S24x28 .f32) (harg6 : arg6.IsWhole)
    (arg7 : Memref sig .tc .vmem S14x64x256 .fp8e4m3) (harg7 : arg7.IsWhole) (arg8 : Memref sig .tc .vmem S28x24x128 .f32) (harg8 : arg8.IsWhole)
    (hc0 : cond0_0 i) (x0 : Vec F S24x3584 .bf16) (x1 : Vec F S512x3584 .fp8e4m3) (x2 : Vec F S32x28 .f32) (y : S24x28.Idx) :
    ∃ pc ∈ (kernelRun0_A c i arg1 harg1 arg2 harg2 arg3 harg3 arg4 harg4 arg5 harg5 arg6 harg6 arg7 harg7 arg8 harg8 hc0 x0 x1 x2).2.2.1, y ∈ pc.1.set :=
  View.cover_of_tiledL (kernelRun0_A c i arg1 harg1 arg2 harg2 arg3 harg3 arg4 harg4 arg5 harg5 arg6 harg6 arg7 harg7 arg8 harg8 hc0 x0 x1 x2).2.2.1 S24x28.size (by sl_kernel_rfl) y

/-- What the first point leaves in the scales: its pieces read back. -/
def out0_A_5 (c : Dev nD) (i : grid0.Coords)
    (arg1 : Memref sig .tc .vmem S24x3584 .bf16) (harg1 : arg1.IsWhole) (arg2 : Memref sig .tc .vmem S512x3584 .fp8e4m3) (harg2 : arg2.IsWhole)
    (arg3 : Memref sig .tc .smem S32x28 .f32) (harg3 : arg3.IsWhole) (arg4 : Memref sig .tc .vmem S24x512 .bf16) (harg4 : arg4.IsWhole)
    (arg5 : Memref sig .tc .vmem S28x24x128 .fp8e4m3) (harg5 : arg5.IsWhole) (arg6 : Memref sig .tc .vmem S24x28 .f32) (harg6 : arg6.IsWhole)
    (arg7 : Memref sig .tc .vmem S14x64x256 .fp8e4m3) (harg7 : arg7.IsWhole) (arg8 : Memref sig .tc .vmem S28x24x128 .f32) (harg8 : arg8.IsWhole)
    (hc0 : cond0_0 i) (x0 : Vec F S24x3584 .bf16) (x1 : Vec F S512x3584 .fp8e4m3) (x2 : Vec F S32x28 .f32) : Vec F S24x28 .f32 :=
  VO0_5.read (Elt F) (VO0_5.writes (Elt F) VO0_5.junk (kernelRun0_A c i arg1 harg1 arg2 harg2 arg3 harg3 arg4 harg4 arg5 harg5 arg6 harg6 arg7 harg7 arg8 harg8 hc0 x0 x1 x2).2.2.1)

/-- The pieces stored at the first point into the scratch of block-diagonal codes cover it. -/
theorem cover0_A_s0 (c : Dev nD) (i : grid0.Coords)
    (arg1 : Memref sig .tc .vmem S24x3584 .bf16) (harg1 : arg1.IsWhole) (arg2 : Memref sig .tc .vmem S512x3584 .fp8e4m3) (harg2 : arg2.IsWhole)
    (arg3 : Memref sig .tc .smem S32x28 .f32) (harg3 : arg3.IsWhole) (arg4 : Memref sig .tc .vmem S24x512 .bf16) (harg4 : arg4.IsWhole)
    (arg5 : Memref sig .tc .vmem S28x24x128 .fp8e4m3) (harg5 : arg5.IsWhole) (arg6 : Memref sig .tc .vmem S24x28 .f32) (harg6 : arg6.IsWhole)
    (arg7 : Memref sig .tc .vmem S14x64x256 .fp8e4m3) (harg7 : arg7.IsWhole) (arg8 : Memref sig .tc .vmem S28x24x128 .f32) (harg8 : arg8.IsWhole)
    (hc0 : cond0_0 i) (x0 : Vec F S24x3584 .bf16) (x1 : Vec F S512x3584 .fp8e4m3) (x2 : Vec F S32x28 .f32) (y : S14x64x256.Idx) :
    ∃ pc ∈ (kernelRun0_A c i arg1 harg1 arg2 harg2 arg3 harg3 arg4 harg4 arg5 harg5 arg6 harg6 arg7 harg7 arg8 harg8 hc0 x0 x1 x2).2.2.2.1, y ∈ pc.1.set :=
  View.cover_of_tiledL (kernelRun0_A c i arg1 harg1 arg2 harg2 arg3 harg3 arg4 harg4 arg5 harg5 arg6 harg6 arg7 harg7 arg8 harg8 hc0 x0 x1 x2).2.2.2.1 S1x64x256.size (by sl_kernel_rfl) y

/-- What the first point leaves in the scratch of block-diagonal codes: its pieces read back. -/
def out0_A_s0 (c : Dev nD) (i : grid0.Coords)
    (arg1 : Memref sig .tc .vmem S24x3584 .bf16) (harg1 : arg1.IsWhole) (arg2 : Memref sig .tc .vmem S512x3584 .fp8e4m3) (harg2 : arg2.IsWhole)
    (arg3 : Memref sig .tc .smem S32x28 .f32) (harg3 : arg3.IsWhole) (arg4 : Memref sig .tc .vmem S24x512 .bf16) (harg4 : arg4.IsWhole)
    (arg5 : Memref sig .tc .vmem S28x24x128 .fp8e4m3) (harg5 : arg5.IsWhole) (arg6 : Memref sig .tc .vmem S24x28 .f32) (harg6 : arg6.IsWhole)
    (arg7 : Memref sig .tc .vmem S14x64x256 .fp8e4m3) (harg7 : arg7.IsWhole) (arg8 : Memref sig .tc .vmem S28x24x128 .f32) (harg8 : arg8.IsWhole)
    (hc0 : cond0_0 i) (x0 : Vec F S24x3584 .bf16) (x1 : Vec F S512x3584 .fp8e4m3) (x2 : Vec F S32x28 .f32) : Vec F S14x64x256 .fp8e4m3 :=
  VS0_0.read (Elt F) (VS0_0.writes (Elt F) VS0_0.junk (kernelRun0_A c i arg1 harg1 arg2 harg2 arg3 harg3 arg4 harg4 arg5 harg5 arg6 harg6 arg7 harg7 arg8 harg8 hc0 x0 x1 x2).2.2.2.1)

/-- The pieces stored at the first point into the scratch of scales cover it. -/
theorem cover0_A_s1 (c : Dev nD) (i : grid0.Coords)
    (arg1 : Memref sig .tc .vmem S24x3584 .bf16) (harg1 : arg1.IsWhole) (arg2 : Memref sig .tc .vmem S512x3584 .fp8e4m3) (harg2 : arg2.IsWhole)
    (arg3 : Memref sig .tc .smem S32x28 .f32) (harg3 : arg3.IsWhole) (arg4 : Memref sig .tc .vmem S24x512 .bf16) (harg4 : arg4.IsWhole)
    (arg5 : Memref sig .tc .vmem S28x24x128 .fp8e4m3) (harg5 : arg5.IsWhole) (arg6 : Memref sig .tc .vmem S24x28 .f32) (harg6 : arg6.IsWhole)
    (arg7 : Memref sig .tc .vmem S14x64x256 .fp8e4m3) (harg7 : arg7.IsWhole) (arg8 : Memref sig .tc .vmem S28x24x128 .f32) (harg8 : arg8.IsWhole)
    (hc0 : cond0_0 i) (x0 : Vec F S24x3584 .bf16) (x1 : Vec F S512x3584 .fp8e4m3) (x2 : Vec F S32x28 .f32) (y : S28x24x128.Idx) :
    ∃ pc ∈ (kernelRun0_A c i arg1 harg1 arg2 harg2 arg3 harg3 arg4 harg4 arg5 harg5 arg6 harg6 arg7 harg7 arg8 harg8 hc0 x0 x1 x2).2.2.2.2.1, y ∈ pc.1.set :=
  View.cover_of_tiledL (kernelRun0_A c i arg1 harg1 arg2 harg2 arg3 harg3 arg4 harg4 arg5 harg5 arg6 harg6 arg7 harg7 arg8 harg8 hc0 x0 x1 x2).2.2.2.2.1 S1x24x128.size (by sl_kernel_rfl) y

/-- What the first point leaves in the scratch of scales: its pieces read back. -/
def out0_A_s1 (c : Dev nD) (i : grid0.Coords)
    (arg1 : Memref sig .tc .vmem S24x3584 .bf16) (harg1 : arg1.IsWhole) (arg2 : Memref sig .tc .vmem S512x3584 .fp8e4m3) (harg2 : arg2.IsWhole)
    (arg3 : Memref sig .tc .smem S32x28 .f32) (harg3 : arg3.IsWhole) (arg4 : Memref sig .tc .vmem S24x512 .bf16) (harg4 : arg4.IsWhole)
    (arg5 : Memref sig .tc .vmem S28x24x128 .fp8e4m3) (harg5 : arg5.IsWhole) (arg6 : Memref sig .tc .vmem S24x28 .f32) (harg6 : arg6.IsWhole)
    (arg7 : Memref sig .tc .vmem S14x64x256 .fp8e4m3) (harg7 : arg7.IsWhole) (arg8 : Memref sig .tc .vmem S28x24x128 .f32) (harg8 : arg8.IsWhole)
    (hc0 : cond0_0 i) (x0 : Vec F S24x3584 .bf16) (x1 : Vec F S512x3584 .fp8e4m3) (x2 : Vec F S32x28 .f32) : Vec F S28x24x128 .f32 :=
  VS0_1.read (Elt F) (VS0_1.writes (Elt F) VS0_1.junk (kernelRun0_A c i arg1 harg1 arg2 harg2 arg3 harg3 arg4 harg4 arg5 harg5 arg6 harg6 arg7 harg7 arg8 harg8 hc0 x0 x1 x2).2.2.2.2.1)

/-- The pieces stored at a later point into the block of the product cover it. -/
theorem cover0_B_3 (c : Dev nD) (i : grid0.Coords)
    (arg1 : Memref sig .tc .vmem S24x3584 .bf16) (harg1 : arg1.IsWhole) (arg2 : Memref sig .tc .vmem S512x3584 .fp8e4m3) (harg2 : arg2.IsWhole)
    (arg3 : Memref sig .tc .smem S32x28 .f32) (harg3 : arg3.IsWhole) (arg4 : Memref sig .tc .vmem S24x512 .bf16) (harg4 : arg4.IsWhole)
    (arg5 : Memref sig .tc .vmem S28x24x128 .fp8e4m3) (harg5 : arg5.IsWhole) (arg6 : Memref sig .tc .vmem S24x28 .f32) (harg6 : arg6.IsWhole)
    (arg7 : Memref sig .tc .vmem S14x64x256 .fp8e4m3) (harg7 : arg7.IsWhole) (arg8 : Memref sig .tc .vmem S28x24x128 .f32) (harg8 : arg8.IsWhole)
    (hc0 : ¬cond0_0 i) (x0 : Vec F S24x3584 .bf16) (x1 : Vec F S512x3584 .fp8e4m3) (x2 : Vec F S32x28 .f32)
    (xs0 : Vec F S14x64x256 .fp8e4m3) (xs1 : Vec F S28x24x128 .f32) (y : S24x512.Idx) :
    ∃ pc ∈ (kernelRun0_B c i arg1 harg1 arg2 harg2 arg3 harg3 arg4 harg4 arg5 harg5 arg6 harg6 arg7 harg7 arg8 harg8 hc0 x0 x1 x2 xs0 xs1).1, y ∈ pc.1.set :=
  View.cover_of_tiledL (kernelRun0_B c i arg1 harg1 arg2 harg2 arg3 harg3 arg4 harg4 arg5 harg5 arg6 harg6 arg7 harg7 arg8 harg8 hc0 x0 x1 x2 xs0 xs1).1 S24x512.size (by sl_kernel_rfl) y

/-- What a later point leaves in the block of the product, from what the scratch buffers hold. -/
def out0_B_3 (c : Dev nD) (i : grid0.Coords)
    (arg1 : Memref sig .tc .vmem S24x3584 .bf16) (harg1 : arg1.IsWhole) (arg2 : Memref sig .tc .vmem S512x3584 .fp8e4m3) (harg2 : arg2.IsWhole)
    (arg3 : Memref sig .tc .smem S32x28 .f32) (harg3 : arg3.IsWhole) (arg4 : Memref sig .tc .vmem S24x512 .bf16) (harg4 : arg4.IsWhole)
    (arg5 : Memref sig .tc .vmem S28x24x128 .fp8e4m3) (harg5 : arg5.IsWhole) (arg6 : Memref sig .tc .vmem S24x28 .f32) (harg6 : arg6.IsWhole)
    (arg7 : Memref sig .tc .vmem S14x64x256 .fp8e4m3) (harg7 : arg7.IsWhole) (arg8 : Memref sig .tc .vmem S28x24x128 .f32) (harg8 : arg8.IsWhole)
    (hc0 : ¬cond0_0 i) (x0 : Vec F S24x3584 .bf16) (x1 : Vec F S512x3584 .fp8e4m3) (x2 : Vec F S32x28 .f32)
    (xs0 : Vec F S14x64x256 .fp8e4m3) (xs1 : Vec F S28x24x128 .f32) : Vec F S24x512 .bf16 :=
  VO0_3.read (Elt F) (VO0_3.writes (Elt F) VO0_3.junk (kernelRun0_B c i arg1 harg1 arg2 harg2 arg3 harg3 arg4 harg4 arg5 harg5 arg6 harg6 arg7 harg7 arg8 harg8 hc0 x0 x1 x2 xs0 xs1).1)

/-! ## What the buffers hold after each point -/

/-- The first grid point. -/
abbrev t0 : Fin cfg0.N := ⟨0, by rw [show cfg0.N = 8 from N_0]; omega⟩

/-- What the scratch buffers hold after every point: what the first one left. -/
def scr0 (c : Dev nD) : Vec F S14x64x256 .fp8e4m3 := out0_A_s0 c (grid0.coords t0) (ms0_0 t0) (hs0_0 t0) (ms0_1 t0) (hs0_1 t0) (ms0_2 t0) (hs0_2 t0) (ms0_3 t0) (hs0_3 t0) (ms0_4 t0) (hs0_4 t0) (ms0_5 t0) (hs0_5 t0)
    scM0_0 (Memref.isWhole_whole _) scM0_1 (Memref.isWhole_whole _) ((hcond0_0 t0).mpr (Nat.zero_mod _))
    (iblk m c 0 t0) (iblk m c 1 t0) (iblk m c 2 t0)
def scr1 (c : Dev nD) : Vec F S28x24x128 .f32 := out0_A_s1 c (grid0.coords t0) (ms0_0 t0) (hs0_0 t0) (ms0_1 t0) (hs0_1 t0) (ms0_2 t0) (hs0_2 t0) (ms0_3 t0) (hs0_3 t0) (ms0_4 t0) (hs0_4 t0) (ms0_5 t0) (hs0_5 t0)
    scM0_0 (Memref.isWhole_whole _) scM0_1 (Memref.isWhole_whole _) ((hcond0_0 t0).mpr (Nat.zero_mod _))
    (iblk m c 0 t0) (iblk m c 1 t0) (iblk m c 2 t0)
/-- What the buffers of the codes and of the scales hold after every point: what the first one left. -/
def fin4 (c : Dev nD) : Vec F S28x24x128 .fp8e4m3 := out0_A_4 c (grid0.coords t0) (ms0_0 t0) (hs0_0 t0) (ms0_1 t0) (hs0_1 t0) (ms0_2 t0) (hs0_2 t0) (ms0_3 t0) (hs0_3 t0) (ms0_4 t0) (hs0_4 t0) (ms0_5 t0) (hs0_5 t0)
    scM0_0 (Memref.isWhole_whole _) scM0_1 (Memref.isWhole_whole _) ((hcond0_0 t0).mpr (Nat.zero_mod _))
    (iblk m c 0 t0) (iblk m c 1 t0) (iblk m c 2 t0)
def fin5 (c : Dev nD) : Vec F S24x28 .f32 := out0_A_5 c (grid0.coords t0) (ms0_0 t0) (hs0_0 t0) (ms0_1 t0) (hs0_1 t0) (ms0_2 t0) (hs0_2 t0) (ms0_3 t0) (hs0_3 t0) (ms0_4 t0) (hs0_4 t0) (ms0_5 t0) (hs0_5 t0)
    scM0_0 (Memref.isWhole_whole _) scM0_1 (Memref.isWhole_whole _) ((hcond0_0 t0).mpr (Nat.zero_mod _))
    (iblk m c 0 t0) (iblk m c 1 t0) (iblk m c 2 t0)
/-- What the product's buffer holds after point `t`. -/
def fin3 (c : Dev nD) (t : Fin cfg0.N) : Vec F S24x512 .bf16 :=
  if h0 : t.val % 8 = 0 then out0_A_3 c (grid0.coords t) (ms0_0 t) (hs0_0 t) (ms0_1 t) (hs0_1 t) (ms0_2 t) (hs0_2 t) (ms0_3 t) (hs0_3 t) (ms0_4 t) (hs0_4 t) (ms0_5 t) (hs0_5 t)
    scM0_0 (Memref.isWhole_whole _) scM0_1 (Memref.isWhole_whole _) ((hcond0_0 t).mpr h0)
    (iblk m c 0 t) (iblk m c 1 t) (iblk m c 2 t)
  else out0_B_3 c (grid0.coords t) (ms0_0 t) (hs0_0 t) (ms0_1 t) (hs0_1 t) (ms0_2 t) (hs0_2 t) (ms0_3 t) (hs0_3 t) (ms0_4 t) (hs0_4 t) (ms0_5 t) (hs0_5 t)
    scM0_0 (Memref.isWhole_whole _) scM0_1 (Memref.isWhole_whole _) (fun h => h0 ((hcond0_0 t).mp h))
    (iblk m c 0 t) (iblk m c 1 t) (iblk m c 2 t) (scr0 m c) (scr1 m c)

theorem fin3_A (c : Dev nD) (t : Fin cfg0.N) (h0 : t.val % 8 = 0) :
    fin3 m c t = out0_A_3 c (grid0.coords t) (ms0_0 t) (hs0_0 t) (ms0_1 t) (hs0_1 t) (ms0_2 t) (hs0_2 t) (ms0_3 t) (hs0_3 t) (ms0_4 t) (hs0_4 t) (ms0_5 t) (hs0_5 t)
    scM0_0 (Memref.isWhole_whole _) scM0_1 (Memref.isWhole_whole _) ((hcond0_0 t).mpr h0)
    (iblk m c 0 t) (iblk m c 1 t) (iblk m c 2 t) := dif_pos h0

theorem fin3_B (c : Dev nD) (t : Fin cfg0.N) (h0 : ¬t.val % 8 = 0) :
    fin3 m c t = out0_B_3 c (grid0.coords t) (ms0_0 t) (hs0_0 t) (ms0_1 t) (hs0_1 t) (ms0_2 t) (hs0_2 t) (ms0_3 t) (hs0_3 t) (ms0_4 t) (hs0_4 t) (ms0_5 t) (hs0_5 t)
    scM0_0 (Memref.isWhole_whole _) scM0_1 (Memref.isWhole_whole _) (fun h => h0 ((hcond0_0 t).mp h))
    (iblk m c 0 t) (iblk m c 1 t) (iblk m c 2 t) (scr0 m c) (scr1 m c) := dif_neg h0

/-- The invariant before position `n`: before the first point each scratch buffer at some contents; afterwards at what
    the first point left in it. -/
def PhiS (c : Dev nD) : (n : ℕ) → n ≤ cfg0.N → sProp 𝕄
  | 0, _ => Pipeline.ΦA spec0 c
  | n + 1, hn => iprop(iprop(owns (c : Thread nD τ) scM0_0 fullShare (scr0 m c) ∗ owns (c : Thread nD τ) scM0_1 fullShare (scr1 m c)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare (scr0 m c) ∗ owns (c : Thread nD τ) scM0_1 fullShare (scr1 m c)) ∗ (∃ r, prngReg c r)) := rfl

theorem PhiS_pos (c : Dev nD) (n : ℕ) (h : n ≤ cfg0.N) (hz : n ≠ 0) :
    PhiS m c n h = iprop(iprop(owns (c : Thread nD τ) scM0_0 fullShare (scr0 m c) ∗ owns (c : Thread nD τ) scM0_1 fullShare (scr1 m c)) ∗ (∃ r, prngReg c r)) := by
  cases n with
  | zero => exact absurd rfl hz
  | succ n => rfl

/-! ## The pipeline's proof data -/

/-- The arrays as the region finds them; after each point every input's buffer at its block and every output's at what
    the points up to it leave; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => fin3 m c t
    | ⟨4, _⟩ => fin4 m c
    | ⟨5, _⟩ => fin5 m c
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = fin3 m c t := by dsimp only [dats]
theorem after0_4 (c : Dev nD) (t : Fin cfg0.N) : (dats m 0 c).after 4 t = fin4 m c := by dsimp only [dats]
theorem after0_5 (c : Dev nD) (t : Fin cfg0.N) : (dats m 0 c).after 5 t = fin5 m c := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-- The buffer of the codes is not idle at the first point, and idle at every other. -/
theorem live0_4 (t : Fin cfg0.N) (h : t.val % 8 = 0) : cfg0.idle 4 (grid0.coords t) = false := by
  have h' := (hcond0_0 t).mpr h
  show (!(k0_cond1 (grid0.coords t) == 1#1)) = false
  simp only [cond0_0] at h'
  rw [h']; rfl
theorem idle0_4 (t : Fin cfg0.N) (h : ¬t.val % 8 = 0) : cfg0.idle 4 (grid0.coords t) = true := by
  have h' : ¬ k0_cond1 (grid0.coords t) = 1#1 := fun e => h ((hcond0_0 t).mp e)
  show (!(k0_cond1 (grid0.coords t) == 1#1)) = true
  rw [beq_eq_false_iff_ne.mpr h']; rfl

/-- At every point but the first the buffer of the codes still holds what the first point left in it. -/
theorem before0_4 (c : Dev nD) (n : ℕ) (hn : n < cfg0.N) (hz : n ≠ 0) (d) :
    (dats m 0 c).before 4 ⟨n, hn⟩ d = fin4 m c := by
  have hN : n < 8 := lt_of_lt_of_eq hn (show cfg0.N = 8 from N_0)
  induction n with
  | zero => exact absurd rfl hz
  | succ n ih =>
    have hn' : n < cfg0.N := Nat.lt_of_succ_lt hn
    have hfl : (cfg0.win 4).flush ⟨n, hn'⟩ = false := by
      rw [Bool.eq_false_iff]; intro h
      have := (flush0_4 ⟨n, hn'⟩).mp h
      simp only at this; omega
    refine ((dats m 0 c).before_of_pos 4 ⟨n + 1, hn⟩ hz rfl d).trans ?_
    rw [show (⟨(⟨n + 1, hn⟩ : Fin cfg0.N).val - 1, Nat.lt_of_le_of_lt (Nat.sub_le _ _) hn⟩ : Fin cfg0.N) = ⟨n, hn'⟩ from rfl]
    rw [hfl, if_neg Bool.false_ne_true]
    unfold Dat.left
    by_cases h0 : n = 0
    · subst h0
      rw [live0_4 ⟨0, hn'⟩ (Nat.zero_mod _)]
      dsimp only
      exact after0_4 m c _
    · rw [idle0_4 ⟨n, hn'⟩ (by simp only; omega)]
      exact ih hn' h0 (by omega)

/-- At the first point the buffer of the codes is handed back at its contents. -/
theorem leaves0_4_A (c : Dev nD) (t : Fin cfg0.N) (h : t.val % 8 = 0) :
    (dats m 0 c).leavesExact 4 t = owns (c : Thread nD τ) (ms0_4 t) fullShare (fin4 m c) := by
  unfold Dat.leavesExact; rw [live0_4 t h]; dsimp only; rw [after0_4]

/-- At every other point it is handed back as it was found. -/
theorem leaves0_4_B (c : Dev nD) (t : Fin cfg0.N) (hz : t.val ≠ 0) :
    owns (c : Thread nD τ) (ms0_4 t) fullShare (fin4 m c) ⊢ (dats m 0 c).leavesExact 4 t := by
  have hN : t.val < 8 := lt_of_lt_of_eq t.isLt (show cfg0.N = 8 from N_0)
  unfold Dat.leavesExact; rw [idle0_4 t (by omega)]; dsimp only
  cases (cfg0.win 4).flush t with
  | false =>
    dsimp only
    iintro H; iexists (fin4 m c)
    rw [before0_4 m c t.val t.isLt hz]; iexact H
  | true => dsimp only; rw [after0_4]

/-- The buffer of the scales is not idle at the first point, and idle at every other. -/
theorem live0_5 (t : Fin cfg0.N) (h : t.val % 8 = 0) : cfg0.idle 5 (grid0.coords t) = false := by
  have h' := (hcond0_0 t).mpr h
  show (!(k0_cond1 (grid0.coords t) == 1#1)) = false
  simp only [cond0_0] at h'
  rw [h']; rfl
theorem idle0_5 (t : Fin cfg0.N) (h : ¬t.val % 8 = 0) : cfg0.idle 5 (grid0.coords t) = true := by
  have h' : ¬ k0_cond1 (grid0.coords t) = 1#1 := fun e => h ((hcond0_0 t).mp e)
  show (!(k0_cond1 (grid0.coords t) == 1#1)) = true
  rw [beq_eq_false_iff_ne.mpr h']; rfl

/-- At every point but the first the buffer of the scales still holds what the first point left in it. -/
theorem before0_5 (c : Dev nD) (n : ℕ) (hn : n < cfg0.N) (hz : n ≠ 0) (d) :
    (dats m 0 c).before 5 ⟨n, hn⟩ d = fin5 m c := by
  have hN : n < 8 := lt_of_lt_of_eq hn (show cfg0.N = 8 from N_0)
  induction n with
  | zero => exact absurd rfl hz
  | succ n ih =>
    have hn' : n < cfg0.N := Nat.lt_of_succ_lt hn
    have hfl : (cfg0.win 5).flush ⟨n, hn'⟩ = false := by
      rw [Bool.eq_false_iff]; intro h
      have := (flush0_5 ⟨n, hn'⟩).mp h
      simp only at this; omega
    refine ((dats m 0 c).before_of_pos 5 ⟨n + 1, hn⟩ hz rfl d).trans ?_
    rw [show (⟨(⟨n + 1, hn⟩ : Fin cfg0.N).val - 1, Nat.lt_of_le_of_lt (Nat.sub_le _ _) hn⟩ : Fin cfg0.N) = ⟨n, hn'⟩ from rfl]
    rw [hfl, if_neg Bool.false_ne_true]
    unfold Dat.left
    by_cases h0 : n = 0
    · subst h0
      rw [live0_5 ⟨0, hn'⟩ (Nat.zero_mod _)]
      dsimp only
      exact after0_5 m c _
    · rw [idle0_5 ⟨n, hn'⟩ (by simp only; omega)]
      exact ih hn' h0 (by omega)

/-- At the first point the buffer of the scales is handed back at its contents. -/
theorem leaves0_5_A (c : Dev nD) (t : Fin cfg0.N) (h : t.val % 8 = 0) :
    (dats m 0 c).leavesExact 5 t = owns (c : Thread nD τ) (ms0_5 t) fullShare (fin5 m c) := by
  unfold Dat.leavesExact; rw [live0_5 t h]; dsimp only; rw [after0_5]

/-- At every other point it is handed back as it was found. -/
theorem leaves0_5_B (c : Dev nD) (t : Fin cfg0.N) (hz : t.val ≠ 0) :
    owns (c : Thread nD τ) (ms0_5 t) fullShare (fin5 m c) ⊢ (dats m 0 c).leavesExact 5 t := by
  have hN : t.val < 8 := lt_of_lt_of_eq t.isLt (show cfg0.N = 8 from N_0)
  unfold Dat.leavesExact; rw [idle0_5 t (by omega)]; dsimp only
  cases (cfg0.win 5).flush t with
  | false =>
    dsimp only
    iintro H; iexists (fin5 m c)
    rw [before0_5 m c t.val t.isLt hz]; iexact H
  | true => dsimp only; rw [after0_5]

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ (dats m 0 c).leavesExact 4 t ∗ (dats m 0 c).leavesExact 5 t)

set_option maxHeartbeats 8000000 in
/-- The body at the first point. -/
theorem sound_first (c : Dev nD) (t : Fin cfg0.N) (hz : t.val = 0) :
    bodyPre m c t ⊢ wp frame (wpE (defs₀ (F := F)) Variants.none c none) Set.univ (bodyAt0 t) (fun _ => bodyPost m c t) := by
  obtain rfl : t = t0 := Fin.ext hz
  have h0 : (t0 : Fin cfg0.N).val % 8 = 0 := Nat.zero_mod _
  unfold bodyPre bodyPost bodyAt0
  simp only [before0_0, before0_1, before0_2]
  rw [show (dats m 0 c).owesAt () t0.succ = (dats m 0 c).owesAt () t0.castSucc from rfl,
    after0_0, after0_1, after0_2, after0_3, leaves0_4_A m c t0 h0, leaves0_5_A m c t0 h0]
  rw [show (dats m 0 c).Φ t0.succ = PhiS m c (t0.val + 1) t0.isLt from rfl, PhiS_succ]
  rw [PhiS_castSucc m c t0, PhiS_zero m c _ _ hz, PhiA0_eq]
  rw [fin3_A m c t0 h0]
  unfold fin4 fin5 scr0 scr1 out0_A_3 out0_A_4 out0_A_5 out0_A_s0 out0_A_s1
  iintro ⟨⟨⟨HS0, HS1⟩, Hg⟩, Ho, ⟨%d0, H0⟩, ⟨%d1, H1⟩, ⟨%d2, H2⟩, ⟨%d3, H3⟩, ⟨%d4, H4⟩, ⟨%d5, H5⟩⟩
  iapply ((kernelRun0_A c (grid0.coords t0) _ _ _ _ _ _ _ _ _ _ _ _ _ _ _ _ ((hcond0_0 t0).mpr h0) (iblk m c 0 t0) (iblk m c 1 t0) (iblk m c 2 t0)).2.2.2.2.2 Set.univ _)
  isplitl [H0]; · iexact H0
  isplitl [H1]; · iexact H1
  isplitl [H2]; · iexact H2
  isplitl [H3]; · iexists _; iexact H3
  isplitl [H4]; · iexists _; iexact H4
  isplitl [H5]; · iexists _; iexact H5
  isplitl [HS0]; · iexact HS0
  isplitl [HS1]; · iexact HS1
  iintro ⟨H0, H1, H2, ⟨%e3, H3⟩, ⟨%e4, H4⟩, ⟨%e5, H5⟩, ⟨%es0, HS0⟩, ⟨%es1, HS1⟩⟩
  isplitl [HS0 HS1 Hg]
  · isplitl [HS0 HS1]
    · isplitl [HS0]
      · unfold owns; iexists _; isplitr
        swap; · iexact HS0
        ipureintro; exact View.read_writes_of_cover _ _ _ _ _ (cover0_A_s0 c _ _ _ _ _ _ _ _ _ _ _ _ _ _ _ _ _ _ _ _ _)
      unfold owns; iexists _; isplitr
      swap; · iexact HS1
      ipureintro; exact View.read_writes_of_cover _ _ _ _ _ (cover0_A_s1 c _ _ _ _ _ _ _ _ _ _ _ _ _ _ _ _ _ _ _ _ _)
    iexact Hg
  isplitl [Ho]; · iexact Ho
  isplitl [H0]; · iexact H0
  isplitl [H1]; · iexact H1
  isplitl [H2]; · iexact H2
  isplitl [H3]
  · unfold owns; iexists _; isplitr
    swap; · iexact H3
    ipureintro; exact View.read_writes_of_cover _ _ _ _ _ (cover0_A_3 c _ _ _ _ _ _ _ _ _ _ _ _ _ _ _ _ _ _ _ _ _)
  isplitl [H4]
  · unfold owns; iexists _; isplitr
    swap; · iexact H4
    ipureintro; exact View.read_writes_of_cover _ _ _ _ _ (cover0_A_4 c _ _ _ _ _ _ _ _ _ _ _ _ _ _ _ _ _ _ _ _ _)
  unfold owns; iexists _; isplitr
  swap; · iexact H5
  ipureintro; exact View.read_writes_of_cover _ _ _ _ _ (cover0_A_5 c _ _ _ _ _ _ _ _ _ _ _ _ _ _ _ _ _ _ _ _ _)

set_option maxHeartbeats 8000000 in
/-- The body at a later point. -/
theorem sound_later (c : Dev nD) (t : Fin cfg0.N) (hz : t.val ≠ 0) :
    bodyPre m c t ⊢ wp frame (wpE (defs₀ (F := F)) Variants.none c none) Set.univ (bodyAt0 t) (fun _ => bodyPost m c t) := by
  have hN : t.val < 8 := lt_of_lt_of_eq t.isLt (show cfg0.N = 8 from N_0)
  have h0 : ¬t.val % 8 = 0 := by omega
  have b4 : ∀ d, (dats m 0 c).before 4 t d = fin4 m c := before0_4 m c t.val t.isLt hz
  have b5 : ∀ d, (dats m 0 c).before 5 t d = fin5 m c := before0_5 m c t.val t.isLt hz
  unfold bodyPre bodyPost bodyAt0
  simp only [before0_0, before0_1, before0_2, b4, b5]
  rw [show (dats m 0 c).owesAt () t.succ = (dats m 0 c).owesAt () t.castSucc from rfl,
    after0_0, after0_1, after0_2, after0_3]
  rw [show (dats m 0 c).Φ t.succ = PhiS m c (t.val + 1) t.isLt from rfl, PhiS_succ]
  rw [PhiS_castSucc m c t, PhiS_pos m c _ _ hz]
  rw [fin3_B m c t h0]
  unfold out0_B_3
  iintro ⟨⟨⟨HS0, HS1⟩, Hg⟩, Ho, ⟨%d0, H0⟩, ⟨%d1, H1⟩, ⟨%d2, H2⟩, ⟨%d3, H3⟩, ⟨%d4, H4⟩, ⟨%d5, H5⟩⟩
  iapply ((kernelRun0_B c (grid0.coords t) _ _ _ _ _ _ _ _ (ms0_4 t) (hs0_4 t) (ms0_5 t) (hs0_5 t) _ _ _ _ (fun h => h0 ((hcond0_0 t).mp h)) (iblk m c 0 t) (iblk m c 1 t) (iblk m c 2 t) _ _).2 Set.univ _)
  isplitl [H0]; · iexact H0
  isplitl [H1]; · iexact H1
  isplitl [H2]; · iexact H2
  isplitl [H3]; · iexists _; iexact H3
  isplitl [HS0]; · iexact HS0
  isplitl [HS1]; · iexact HS1
  iintro ⟨H0, H1, H2, ⟨%e3, H3⟩, HS0, HS1⟩
  isplitl [HS0 HS1 Hg]
  · isplitl [HS0 HS1]
    · isplitl [HS0]
      · iexact HS0
      iexact HS1
    iexact Hg
  isplitl [Ho]; · iexact Ho
  isplitl [H0]; · iexact H0
  isplitl [H1]; · iexact H1
  isplitl [H2]; · iexact H2
  isplitl [H3]
  · unfold owns; iexists _; isplitr
    swap; · iexact H3
    ipureintro; exact View.read_writes_of_cover _ _ _ _ _ (cover0_B_3 c _ _ _ _ _ _ _ _ _ (ms0_4 t) (hs0_4 t) (ms0_5 t) (hs0_5 t) _ _ _ _ _ _ _ _ _ _)
  isplitl [H4]
  · iapply (leaves0_4_B m c t hz); iexact H4
  iapply (leaves0_5_B m c t hz); iexact H5

/-- The body at any point. -/
theorem sound_body (c : Dev nD) (t : Fin cfg0.N) :
    bodyPre m c t ⊢ wp frame (wpE (defs₀ (F := F)) Variants.none c none) Set.univ (bodyAt0 t) (fun _ => bodyPost m c t) := by
  by_cases hz : t.val = 0
  · exact sound_first m c t hz
  · exact sound_later m c t hz

/-- The body table's row at point `t`'s slots is the body. -/
theorem defs₀_row (t : Fin cfg0.N) :
    defs₀ (F := F) .tc cfg0.body (cfg0.bodyArgs t (cfg0.slots t)) = bodyAt0 t := by
  unfold defs₀; rw [Defs.onTc_tc]

/-- The body obligation of the pipeline, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point the invariant gives back what the launch handed: the scratch buffers' contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1⟩, Hg⟩
  isplitl [HS0 HS1]
  · isplitl [HS0]
    · iexists _; iexact HS0
    iexists _; iexact HS1
  iexact Hg

theorem hout (c : Dev nD) : (dats m 0 c).Φ (Fin.last cfg0.N) ⊢ Pipeline.ΦA spec0 c :=
  Phi_out m c _ (by rw [Fin.val_last]; have : cfg0.N = 8 := N_0; omega)

/-! ## The run and the frame -/

set_option backward.isDefEq.respectTransparency.types false in
/-- Every weakly fair execution terminates with every array of the pipeline at what the proof data say, every other
    unscoped buffer as the region found it, and every semaphore counter at zero. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub)
    (hfresh := sfx_fresh) (hkeep := sfx_keeps) (hmain := hmain m Variants.none) (hA := A_eq m) (hin := hin m) (hout := hout m)

/-- The same without the counters. -/
theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

/-- The frame: every execution ends with the arguments unchanged and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.Kernel.Run

end
-- ==== Proof.Group.lean ====
/- What the kernel's body computes: of one group of 128 activations its scale, its inverse and its codes; of one tile of
   the product its value after all groups. -/
module

public import proofs.«01_k».proof.Proof.KernelFrame

@[expose] public section

set_option maxRecDepth 16384

noncomputable section

namespace Cert.KernelIdeal.Run

open Cert.KernelIdeal Cert.KernelIdeal.Gen
open Idealize.ShloMosaic Idealize.ShloMosaic.TcCoe

variable {F : FTy → Type} [FloatOps F]

/-! ## One group -/

/-- The activations of a group, widened. -/
def tileOf (u : Vec F S24x128 .bf16) : FVec F S24x128 .f32 :=
  extf .f32 (shapeCast S24x128 u shapeCasts_S24x128_S24x128) bitsLt_bf16_f32

/-- The greatest magnitude of each row of a group, in every lane. -/
def rowMax (u : Vec F S24x128 .bf16) : FVec F S24x128 .f32 :=
  broadcastTo S24x128 (shapeCast S24x1 (shapeCast S24x1
    (multiReduction .maximumf [1] S24 (absf (tileOf u)) 0xFF800000#32 reduces_S24x128_S24 (.inl rfl) rfl)
    shapeCasts_S24_S24x1) shapeCasts_S24x1_S24x1) broadcasts_S24x1_S24x128

/-- The number whose power of two the scale is. -/
def ratio (u : Vec F S24x128 .bf16) : FVec F S24x128 .f32 :=
  mulf (rowMax u) (broadcast S24x128 (Scalar.ofBits .f32 0x3B124925#32))

/-- One step of the search for the exponent field of `y`: the bit `b` is kept if the power of two with that field is at
    most `y`. -/
def trial (y : FVec F S24x128 .f32) (b : BitVec 32) (f : IVec S24x128 32) : IVec S24x128 32 :=
  select (cmpf .oge y (bitcastToFloat .f32 (shli (addi f (broadcast S24x128 b)) (broadcast S24x128 23#32))))
    (addi f (broadcast S24x128 b)) f

/-- The exponent field of `y`. -/
def fieldOf (y : FVec F S24x128 .f32) : IVec S24x128 32 :=
  trial y 1#32 (trial y 2#32 (trial y 4#32 (trial y 8#32 (trial y 16#32 (trial y 32#32 (trial y 64#32 (trial y 128#32
    (broadcast S24x128 0#32))))))))

/-- The exponent of the scale of a group. -/
def expo (u : Vec F S24x128 .bf16) : IVec S24x128 32 :=
  select (cmpf .oeq (rowMax u) (broadcast S24x128 (Scalar.ofBits .f32 0x00000000#32))) (broadcast S24x128 0#32)
    (select (ori (cmpi .eq (fieldOf (ratio u)) (broadcast S24x128 0#32)) (cmpi .eq (fieldOf (ratio u)) (broadcast S24x128 255#32)))
      (broadcast S24x128 0#32) (subi (fieldOf (ratio u)) (broadcast S24x128 126#32)))

/-- Two to the power `e`, as the product of the powers to the two halves of `e`. -/
def powTwo (e : IVec S24x128 32) : FVec F S24x128 .f32 :=
  mulf (bitcastToFloat .f32 (shli (addi (shrsi e (broadcast S24x128 1#32)) (broadcast S24x128 127#32)) (broadcast S24x128 23#32)))
    (bitcastToFloat .f32 (shli (addi (subi e (shrsi e (broadcast S24x128 1#32))) (broadcast S24x128 127#32)) (broadcast S24x128 23#32)))

/-- The scale of each row of a group, in every lane, -/
def scaleOf (u : Vec F S24x128 .bf16) : FVec F S24x128 .f32 := powTwo (expo u)

/-- and its inverse. -/
def invOf (u : Vec F S24x128 .bf16) : FVec F S24x128 .f32 := powTwo (subi (broadcast S24x128 0#32) (expo u))

/-- The scaled activations of a group, clipped. -/
def clipOf (u : Vec F S24x128 .bf16) : FVec F S24x128 .f32 :=
  minimumf (broadcast S24x128 (Scalar.ofBits .f32 0x43E00000#32))
    (maximumf (broadcast S24x128 (Scalar.ofBits .f32 0xC3E00000#32)) (mulf (tileOf u) (invOf u)))

/-! ## What the first point stores -/

theorem inbRow (n : ℕ) (h : n + 1 ≤ 28) : ∀ a, (![n, 0, 0] : Fin 3 → ℕ) a + S1x24x128.size a ≤ S28x24x128.size a := by
  intro a; fin_cases a
  · show n + 1 ≤ 28; omega
  · show 0 + 24 ≤ 24; omega
  · show 0 + 128 ≤ 128; omega

theorem inbPair (n : ℕ) (h : n + 1 ≤ 14) : ∀ a, (![n, 0, 0] : Fin 3 → ℕ) a + S1x64x256.size a ≤ S14x64x256.size a := by
  intro a; fin_cases a
  · show n + 1 ≤ 14; omega
  · show 0 + 64 ≤ 64; omega
  · show 0 + 256 ≤ 256; omega

/-- The pieces stored into the buffer of the codes: one for each group. -/
def codePieces (X : ℕ → Vec F S24x128 .bf16) : (n : ℕ) → n ≤ 28 → List (View.Piece (Elt F) S28x24x128 .fp8e4m3)
  | 0, _ => []
  | n + 1, h => ⟨Rect.unit (s := S28x24x128) ![n, 0, 0] S1x24x128.size (inbRow n h),
      shapeCast S1x24x128 (truncf .fp8e4m3 (clipOf (X n)) bitsLt_fp8e4m3_f32) shapeCasts_S24x128_S1x24x128⟩
      :: codePieces X n (Nat.le_of_succ_le h)

/-- The pieces stored into the scratch buffer of the scales: one for each group. -/
def scalePieces (X : ℕ → Vec F S24x128 .bf16) : (n : ℕ) → n ≤ 28 → List (View.Piece (Elt F) S28x24x128 .f32)
  | 0, _ => []
  | n + 1, h => ⟨Rect.unit (s := S28x24x128) ![n, 0, 0] S1x24x128.size (inbRow n h),
      shapeCast S1x24x128 (scaleOf (X n)) shapeCasts_S24x128_S1x24x128⟩ :: scalePieces X n (Nat.le_of_succ_le h)

/-- The left operand of one product: the codes of an even group at the top left, those of the next at the middle right,
    zeros elsewhere. -/
def pairOf (q q' : FVec F S24x128 .f32) : FVec F S64x256 .f32 :=
  concatenate S64x256 0
    [⟨S24x256, concatenate S24x256 1 [⟨S24x128, q⟩, ⟨S24x128, broadcast S24x128 (Scalar.ofBits .f32 0x00000000#32)⟩]
        concatenates_S24x128_S24x128_S24x256_d1⟩,
     ⟨S24x256, concatenate S24x256 1 [⟨S24x128, broadcast S24x128 (Scalar.ofBits .f32 0x00000000#32)⟩, ⟨S24x128, q'⟩]
        concatenates_S24x128_S24x128_S24x256_d1⟩,
     ⟨S16x256, broadcast S16x256 (Scalar.ofBits .f32 0x00000000#32)⟩]
    concatenates_S24x256_S24x256_S16x256_S64x256_d0

/-- The pieces stored into the scratch buffer of the left operands: one for each pair of groups. -/
def pairPieces (X : ℕ → Vec F S24x128 .bf16) : (n : ℕ) → n ≤ 14 → List (View.Piece (Elt F) S14x64x256 .fp8e4m3)
  | 0, _ => []
  | n + 1, h => ⟨Rect.unit (s := S14x64x256) ![n, 0, 0] S1x64x256.size (inbPair n h),
      shapeCast S1x64x256 (truncf .fp8e4m3 (pairOf (clipOf (X (2 * n))) (clipOf (X (2 * n + 1)))) bitsLt_fp8e4m3_f32)
        shapeCasts_S64x256_S1x64x256⟩ :: pairPieces X n (Nat.le_of_succ_le h)

/-- The scales of the first `n` groups, one in each lane. -/
def compactOf (X : ℕ → Vec F S24x128 .bf16) : ℕ → FVec F S24x128 .f32
  | 0 => broadcast S24x128 (Scalar.ofBits .f32 0x00000000#32)
  | n + 1 => select (cmpi .eq (iota .tc S24x128 32 [1] iota_S24x128_d1_w32) (broadcast S24x128 (BitVec.ofNat 32 n)))
      (scaleOf (X n)) (compactOf X n)

/-- The piece stored into the buffer of the scales. -/
def compactPieces (X : ℕ → Vec F S24x128 .bf16) : List (View.Piece (Elt F) S24x28 .f32) :=
  [⟨Rect.unit (s := S24x28) ![0, 0] S24x28.size inb_S24x28_S24x28_0_0,
    extractStridedSlice S24x28 ![0, 0] (compactOf X 28) slices_S24x128_o0_0_S24x28⟩]

/-! ## The product -/

/-- The product of one pair of groups. -/
def dotOf (l : Vec F S1x64x256 .fp8e4m3) (w : Vec F S512x256 .fp8e4m3) : FVec F S64x512 .f32 :=
  matmul dot_S64x256_S512x256_S64x512_1_1_0_0_n_n none (shapeCast S64x256 l shapeCasts_S1x64x256_S64x256) w
    (constant S64x512 .f32 0x00000000#32)

theorem slicesTile (h c : ℕ) (hh : h < 2) (hc : c < 4) : S64x512.Slices ![24 * h, 128 * c] S24x128 := by
  obtain rfl | rfl : h = 0 ∨ h = 1 := by omega
  all_goals obtain rfl | rfl | rfl | rfl : c = 0 ∨ c = 1 ∨ c = 2 ∨ c = 3 := by omega
  · exact slices_S64x512_o0_0_S24x128
  · exact slices_S64x512_o0_128_S24x128
  · exact slices_S64x512_o0_256_S24x128
  · exact slices_S64x512_o0_384_S24x128
  · exact slices_S64x512_o24_0_S24x128
  · exact slices_S64x512_o24_128_S24x128
  · exact slices_S64x512_o24_256_S24x128
  · exact slices_S64x512_o24_384_S24x128

/-- What group `n` adds to column tile `c`. -/
def termOf (r : FVec F S64x512 .f32) (s : Vec F S1x24x128 .f32) (w : Elt F .f32) (n c : ℕ) (hc : c < 4) : FVec F S24x128 .f32 :=
  mulf (mulf (extractStridedSlice S24x128 ![24 * (n % 2), 128 * c] r (slicesTile (n % 2) c (Nat.mod_lt _ (by decide)) hc))
    (shapeCast S24x128 s shapeCasts_S1x24x128_S24x128)) (broadcast S24x128 w)

/-- Column tile `c` of the product after `n` groups. -/
def accOf (L : ℕ → Vec F S1x64x256 .fp8e4m3) (W : ℕ → Vec F S512x256 .fp8e4m3) (S : ℕ → Vec F S1x24x128 .f32)
    (ws : ℕ → ℕ → Elt F .f32) (c : ℕ) (hc : c < 4) : ℕ → FVec F S24x128 .f32
  | 0 => broadcast S24x128 (Scalar.ofBits .f32 0x00000000#32)
  | n + 1 => addf (accOf L W S ws c hc n) (termOf (dotOf (L (n / 2)) (W (n / 2))) (S n) (ws c n) n c hc)

/-- The block of the product. -/
def blockOf (L : ℕ → Vec F S1x64x256 .fp8e4m3) (W : ℕ → Vec F S512x256 .fp8e4m3) (S : ℕ → Vec F S1x24x128 .f32)
    (ws : ℕ → ℕ → Elt F .f32) : FVec F S24x512 .bf16 :=
  truncf .bf16 (concatenate S24x512 1
    [⟨S24x128, accOf L W S ws 0 (by decide) 28⟩, ⟨S24x128, accOf L W S ws 1 (by decide) 28⟩,
     ⟨S24x128, accOf L W S ws 2 (by decide) 28⟩, ⟨S24x128, accOf L W S ws 3 (by decide) 28⟩]
    concatenates_S24x128_S24x128_S24x128_S24x128_S24x512_d1) bitsLt_bf16_f32

/-! ## What the body loads -/

theorem inbGroup (n : ℕ) : ∀ a, (![0, 128 * (n % 28)] : Fin 2 → ℕ) a + S24x128.size a ≤ S24x3584.size a := by
  have := Nat.mod_lt n (show 0 < 28 by decide)
  intro a; fin_cases a
  · show 0 + 24 ≤ 24; omega
  · show 128 * (n % 28) + 128 ≤ 3584; omega

theorem inbWeights (n : ℕ) : ∀ a, (![0, 256 * (n % 14)] : Fin 2 → ℕ) a + S512x256.size a ≤ S512x3584.size a := by
  have := Nat.mod_lt n (show 0 < 14 by decide)
  intro a; fin_cases a
  · show 0 + 512 ≤ 512; omega
  · show 256 * (n % 14) + 256 ≤ 3584; omega

/-- Where the scale of the weights of column tile `c` and group `n` is. -/
def wsOff (i : grid0.Coords) (c n : ℕ) : Fin 2 → ℕ := ![k0_off1 i (BitVec.ofNat 32 (c % 4)) 0, n % 28]

theorem inbWs (i : grid0.Coords) (c n : ℕ) : ∀ a, wsOff i c n a + S1x1.size a ≤ S32x28.size a := by
  have := Nat.mod_lt n (show 0 < 28 by decide)
  intro a; fin_cases a
  · exact k0_off1_inb i ⟨c % 4, Nat.mod_lt _ (by decide)⟩ 0
  · show n % 28 + 1 ≤ 28; omega

theorem inbRow' (n : ℕ) : ∀ a, (![n % 28, 0, 0] : Fin 3 → ℕ) a + S1x24x128.size a ≤ S28x24x128.size a :=
  inbRow _ (Nat.mod_lt n (by decide))

theorem inbPair' (n : ℕ) : ∀ a, (![n % 14, 0, 0] : Fin 3 → ℕ) a + S1x64x256.size a ≤ S14x64x256.size a :=
  inbPair _ (Nat.mod_lt n (by decide))

end Cert.KernelIdeal.Run

end
-- ==== Proof.Scale.lean ====
/- The scale of a group, as numbers: the search over the exponent field, which the kernel does, finds the power of two that
   the reference takes as the greatest of all powers that are at most the ratio. -/
module

public import Idealize.ShloMosaic.Lib.Pointwise

@[expose] public section

set_option maxRecDepth 16384

noncomputable section

namespace Cert.Scale

open Idealize.ShloMosaic

/-! ## Powers of two by their exponent field -/

/-- The float whose exponent field is `k` and whose other bits are zero. -/
def fp (k : BitVec 32) : EReal := Ideal.ofBits .f32 (IntOp.shli .vector k 23#32)

/-- The same of a natural number. -/
def pw (k : ℕ) : EReal := fp (BitVec.ofNat 32 k)

theorem bits_ex : ∀ k : Fin 256, ((IntOp.shli .vector (BitVec.ofNat 32 k.val) 23#32).extractLsb' 23 8).toNat = k.val := by
  decide +kernel

theorem bits_fr : ∀ k : Fin 256, ((IntOp.shli .vector (BitVec.ofNat 32 k.val) 23#32).extractLsb' 0 23).toNat = 0 := by
  decide +kernel

theorem bits_neg : ∀ k : Fin 256, ((IntOp.shli .vector (BitVec.ofNat 32 k.val) 23#32).extractLsb' (8 + 23) 1 == 1#1) = false := by
  decide +kernel

/-- A field strictly between the two ends is a power of two, -/
theorem pw_eq (k : ℕ) (h1 : 1 ≤ k) (h2 : k ≤ 254) : pw k = (((2 : ℝ) ^ ((k : ℤ) - 127) : ℝ) : EReal) := by
  have e1 := bits_ex ⟨k, by omega⟩
  have e2 := bits_fr ⟨k, by omega⟩
  have e3 := bits_neg ⟨k, by omega⟩
  dsimp only at e1 e2 e3
  show Ideal.ieee 8 23 (IntOp.shli .vector (BitVec.ofNat 32 k) 23#32) = _
  unfold Ideal.ieee
  rw [e1, e2, e3]
  rw [if_neg (by omega), if_neg (by omega)]
  have h : ((k : ℤ) - 127) = 23 + ((k : ℤ) - (2 ^ (8 - 1) - 1) - (23 : ℕ)) := by omega
  rw [h, zpow_add₀ (by norm_num)]
  refine congrArg (fun r : ℝ => (r : EReal)) (congrArg₂ (· * ·) ?_ rfl)
  norm_num

/-- the field zero is zero, -/
theorem pw_zero : pw 0 = 0 := by
  have e1 := bits_ex ⟨0, by omega⟩
  have e2 := bits_fr ⟨0, by omega⟩
  have e3 := bits_neg ⟨0, by omega⟩
  dsimp only at e1 e2 e3
  show Ideal.ieee 8 23 (IntOp.shli .vector (BitVec.ofNat 32 0) 23#32) = _
  unfold Ideal.ieee
  rw [e1, e2, e3]
  norm_num

/-- and the field of ones is infinity. -/
theorem pw_top : pw 255 = ⊤ := by
  have e1 := bits_ex ⟨255, by omega⟩
  have e2 := bits_fr ⟨255, by omega⟩
  have e3 := bits_neg ⟨255, by omega⟩
  dsimp only at e1 e2 e3
  show Ideal.ieee 8 23 (IntOp.shli .vector (BitVec.ofNat 32 255) 23#32) = _
  unfold Ideal.ieee
  rw [e1, e2, e3]
  norm_num

theorem pw_pos (k : ℕ) (h1 : 1 ≤ k) (h2 : k ≤ 254) : 0 < pw k := by
  rw [pw_eq k h1 h2]
  exact_mod_cast zpow_pos (by norm_num : (0 : ℝ) < 2) _

/-- The powers grow with the field. -/
theorem pw_mono (j k : ℕ) (h : j ≤ k) (hk : k ≤ 255) : pw j ≤ pw k := by
  obtain rfl | h0 : j = 0 ∨ 1 ≤ j := by omega
  · rw [pw_zero]
    obtain rfl | h1 : k = 0 ∨ 1 ≤ k := by omega
    · rw [pw_zero]
    obtain rfl | h2 : k = 255 ∨ k ≤ 254 := by omega
    · rw [pw_top]; exact le_top
    · exact (pw_pos k h1 h2).le
  obtain rfl | h2 : k = 255 ∨ k ≤ 254 := by omega
  · rw [pw_top]; exact le_top
  rw [pw_eq j h0 (by omega), pw_eq k (by omega) h2]
  exact_mod_cast zpow_le_zpow_right₀ (by norm_num : (1 : ℝ) ≤ 2) (sub_le_sub_right (Int.ofNat_le.mpr h) 127)

/-! ## The search -/

/-- One step: the bit `b` is kept if the power with that field is at most `y`. -/
def trialS (y : EReal) (b f : BitVec 32) : BitVec 32 := if fp (IntOp.addi f b) ≤ y then IntOp.addi f b else f

/-- The field that the search finds. -/
def fieldS (y : EReal) : BitVec 32 :=
  trialS y 1#32 (trialS y 2#32 (trialS y 4#32 (trialS y 8#32 (trialS y 16#32 (trialS y 32#32 (trialS y 64#32 (trialS y 128#32
    0#32)))))))

/-- The field `f` is below `y` and every field from `f + b` on is above. -/
def Found (y : EReal) (b : ℕ) (f : BitVec 32) : Prop :=
  ∃ k : ℕ, f = BitVec.ofNat 32 k ∧ k + b ≤ 256 ∧ pw k ≤ y ∧ ∀ j, k + b ≤ j → j ≤ 255 → ¬ pw j ≤ y

theorem Found.trial {y : EReal} {b : ℕ} {f : BitVec 32} (h : Found y (2 * b) f) (hb : 1 ≤ b) :
    Found y b (trialS y (BitVec.ofNat 32 b) f) := by
  obtain ⟨k, rfl, hk, hle, hgt⟩ := h
  have e : IntOp.addi (BitVec.ofNat 32 k) (BitVec.ofNat 32 b) = BitVec.ofNat 32 (k + b) := by
    show BitVec.ofNat 32 k + BitVec.ofNat 32 b = _
    rw [BitVec.ofNat_add]
  unfold trialS
  rw [e]
  by_cases hc : fp (BitVec.ofNat 32 (k + b)) ≤ y
  · rw [if_pos hc]
    exact ⟨k + b, rfl, by omega, hc, fun j h1 h2 => hgt j (by omega) h2⟩
  · rw [if_neg hc]
    exact ⟨k, rfl, by omega, hle, fun j h1 h2 h3 => hc ((pw_mono (k + b) j h1 h2).trans h3)⟩

/-- The search finds the greatest field whose power is at most `y`. -/
theorem fieldS_found (y : EReal) (hy : 0 ≤ y) : Found y 1 (fieldS y) := by
  have h0 : Found y (2 * 128) (0#32) :=
    ⟨0, rfl, by omega, by rw [pw_zero]; exact hy, fun j h1 h2 => absurd h1 (by omega)⟩
  exact Found.trial (b := 1) (Found.trial (b := 2) (Found.trial (b := 4) (Found.trial (b := 8) (Found.trial (b := 16)
    (Found.trial (b := 32) (Found.trial (b := 64) (Found.trial (b := 128) h0 (by omega)) (by omega)) (by omega)) (by omega))
    (by omega)) (by omega)) (by omega)) (by omega)

/-! ## The exponent and the powers -/

/-- The exponent of the scale, from the field. -/
def expS (f : BitVec 32) : BitVec 32 :=
  Scalar.select (IntOp.ori (IntOp.cmpi .eq f 0#32) (IntOp.cmpi .eq f 255#32)) 0#32 (IntOp.subi f 126#32)

/-- Two to the power `e`, as a product of two floats. -/
def powS (e : BitVec 32) : EReal :=
  fp (IntOp.addi (IntOp.shrsi .vector e 1#32) 127#32)
    * fp (IntOp.addi (IntOp.subi e (IntOp.shrsi .vector e 1#32)) 127#32)

theorem exp_ends : expS 0#32 = 0#32 ∧ expS 255#32 = 0#32 := by decide +kernel

/-- The field of the first half of the exponent, and of its negative, -/
theorem half_a : ∀ k : Fin 256, 1 ≤ k.val → k.val ≤ 254 →
    IntOp.addi (IntOp.shrsi .vector (expS (BitVec.ofNat 32 k.val)) 1#32) 127#32 = BitVec.ofNat 32 (k.val / 2 + 64)
    ∧ IntOp.addi (IntOp.shrsi .vector (IntOp.subi 0#32 (expS (BitVec.ofNat 32 k.val))) 1#32) 127#32
      = BitVec.ofNat 32 (190 - (k.val + 1) / 2) := by decide +kernel

/-- and of the second. -/
theorem half_b : ∀ k : Fin 256, 1 ≤ k.val → k.val ≤ 254 →
    IntOp.addi (IntOp.subi (expS (BitVec.ofNat 32 k.val)) (IntOp.shrsi .vector (expS (BitVec.ofNat 32 k.val)) 1#32)) 127#32
      = BitVec.ofNat 32 ((k.val + 1) / 2 + 64)
    ∧ IntOp.addi (IntOp.subi (IntOp.subi 0#32 (expS (BitVec.ofNat 32 k.val)))
        (IntOp.shrsi .vector (IntOp.subi 0#32 (expS (BitVec.ofNat 32 k.val))) 1#32)) 127#32
      = BitVec.ofNat 32 (190 - k.val / 2) := by decide +kernel

theorem half_zero : IntOp.addi (IntOp.shrsi .vector 0#32 1#32) 127#32 = BitVec.ofNat 32 127
    ∧ IntOp.addi (IntOp.subi 0#32 (IntOp.shrsi .vector 0#32 1#32)) 127#32 = BitVec.ofNat 32 127
    ∧ IntOp.subi 0#32 0#32 = 0#32 := by decide +kernel

theorem pw_mul (a b : ℕ) (ha : 1 ≤ a) (ha' : a ≤ 254) (hb : 1 ≤ b) (hb' : b ≤ 254) :
    pw a * pw b = (((2 : ℝ) ^ ((a : ℤ) + b - 254) : ℝ) : EReal) := by
  rw [pw_eq a ha ha', pw_eq b hb hb', ← EReal.coe_mul, ← zpow_add₀ (by norm_num)]
  congr 2
  ring

/-- Of a field between the two ends, the scale is twice its power, -/
theorem powS_exp (k : ℕ) (h1 : 1 ≤ k) (h2 : k ≤ 254) :
    powS (expS (BitVec.ofNat 32 k)) = (((2 : ℝ) ^ ((k : ℤ) - 126) : ℝ) : EReal) := by
  have ea := (half_a ⟨k, by omega⟩ h1 h2).1
  have eb := (half_b ⟨k, by omega⟩ h1 h2).1
  dsimp only at ea eb
  unfold powS
  rw [ea, eb]
  show pw (k / 2 + 64) * pw ((k + 1) / 2 + 64) = _
  rw [pw_mul _ _ (by omega) (by omega) (by omega) (by omega)]
  congr 2
  omega

/-- and with the negated exponent its inverse. -/
theorem powS_neg (k : ℕ) (h1 : 1 ≤ k) (h2 : k ≤ 254) :
    powS (IntOp.subi 0#32 (expS (BitVec.ofNat 32 k))) = (((2 : ℝ) ^ (-((k : ℤ) - 126)) : ℝ) : EReal) := by
  have ea := (half_a ⟨k, by omega⟩ h1 h2).2
  have eb := (half_b ⟨k, by omega⟩ h1 h2).2
  dsimp only at ea eb
  unfold powS
  rw [ea, eb]
  show pw (190 - (k + 1) / 2) * pw (190 - k / 2) = _
  rw [pw_mul _ _ (by omega) (by omega) (by omega) (by omega)]
  congr 2
  omega

/-- To the power zero it is one. -/
theorem powS_zero : powS 0#32 = 1 := by
  unfold powS
  rw [half_zero.1, half_zero.2.1]
  show pw 127 * pw 127 = _
  rw [pw_mul _ _ (by omega) (by omega) (by omega) (by omega)]
  norm_num

/-! ## The reference's scale -/

/-- The greatest power of two that is at most `y`, zero if none is. -/
def below (y : EReal) : EReal :=
  Finset.fold max (Ideal.ofBits .f32 0xFF800000#32) (fun n : Fin 254 => if pw (n.val + 1) ≤ y then pw (n.val + 1) else 0)
    Finset.univ

/-- The scale that the ratio `y` gives. -/
def scaleS (y : EReal) : EReal := if below y = 0 ∨ y = ⊤ then 1 else 2 * below y

theorem ofBits_bot : Ideal.ofBits .f32 0xFF800000#32 = (⊥ : EReal) := by
  simp [Ideal.ofBits, Ideal.ieee]

theorem below_le (y c : EReal) (hc : 0 ≤ c) (h : ∀ n : Fin 254, pw (n.val + 1) ≤ y → pw (n.val + 1) ≤ c) : below y ≤ c := by
  unfold below
  rw [ofBits_bot, Finset.fold_max_le]
  refine ⟨bot_le, fun n _ => ?_⟩
  split
  · exact h n ‹_›
  · exact hc

theorem le_below (y c : EReal) (n : Fin 254) (h : c ≤ if pw (n.val + 1) ≤ y then pw (n.val + 1) else 0) : c ≤ below y := by
  unfold below
  rw [Finset.le_fold_max]
  exact .inr ⟨n, Finset.mem_univ _, h⟩

/-- Twice the greatest power is the scale of the field found; the two ends give one. -/
theorem scale_eq (y : EReal) (hy : 0 ≤ y) :
    powS (expS (fieldS y)) = scaleS y
      ∧ powS (IntOp.subi 0#32 (expS (fieldS y))) = Ideal.div 1 (scaleS y) := by
  obtain ⟨k, hf, hk, hle, hgt⟩ := fieldS_found y hy
  rw [hf]
  have d1 : Ideal.div 1 1 = 1 := by
    unfold Ideal.div
    rw [if_neg (by norm_num)]
    have : ((1 : EReal))⁻¹ = 1 := by
      have : (1 : EReal) = ((1 : ℝ) : EReal) := rfl
      rw [this, ← EReal.coe_inv]; norm_num
    rw [this, one_mul]
  obtain rfl | h0 : k = 0 ∨ 1 ≤ k := by omega
  · have hb : below y = 0 := by
      apply le_antisymm
      · exact below_le y 0 le_rfl (fun n hn => absurd hn (hgt _ (by omega) (by omega)))
      · exact le_below y 0 ⟨0, by omega⟩ (by rw [if_neg (hgt _ (by omega) (by omega))])
    unfold scaleS
    rw [if_pos (.inl hb), show BitVec.ofNat 32 0 = 0#32 from rfl, exp_ends.1, half_zero.2.2, powS_zero, d1]
    exact ⟨rfl, rfl⟩
  obtain rfl | h2 : k = 255 ∨ k ≤ 254 := by omega
  · have ht : y = ⊤ := by rw [pw_top] at hle; exact top_le_iff.mp hle
    unfold scaleS
    rw [if_pos (.inr ht), show BitVec.ofNat 32 255 = 255#32 from rfl, exp_ends.2, half_zero.2.2, powS_zero, d1]
    exact ⟨rfl, rfl⟩
  have hb : below y = pw k := by
    apply le_antisymm
    · refine below_le y _ (pw_pos k h0 h2).le (fun n hn => ?_)
      by_contra hc
      have : k < n.val + 1 := by
        by_contra hlt
        exact hc (pw_mono _ _ (by omega) (by omega))
      exact hgt _ (by omega) (by omega) hn
    · refine le_below y _ ⟨k - 1, by omega⟩ ?_
      have : k - 1 + 1 = k := by omega
      simp only [this]
      rw [if_pos hle]
  have ht : y ≠ ⊤ := by
    rintro rfl
    exact hgt 255 (by omega) (by omega) le_top
  have hs : scaleS y = (((2 : ℝ) ^ ((k : ℤ) - 126) : ℝ) : EReal) := by
    unfold scaleS
    rw [if_neg (by rw [hb]; exact not_or.mpr ⟨(pw_pos k h0 h2).ne', ht⟩), hb, pw_eq k h0 h2]
    have : (2 : EReal) = ((2 : ℝ) : EReal) := rfl
    rw [this, ← EReal.coe_mul]
    congr 1
    rw [show ((k : ℤ) - 126) = 1 + ((k : ℤ) - 127) by ring, zpow_add₀ (by norm_num), zpow_one]
  refine ⟨by rw [powS_exp k h0 h2, hs], ?_⟩
  rw [powS_neg k h0 h2, hs]
  unfold Ideal.div
  have hp : (0 : ℝ) < (2 : ℝ) ^ ((k : ℤ) - 126) := zpow_pos (by norm_num) _
  rw [if_neg (by exact_mod_cast hp.ne'), one_mul, ← EReal.coe_inv, zpow_neg]

/-- Of the ratio zero the exponent is zero. -/
theorem expS_zero : expS (fieldS 0) = 0#32 := by
  obtain ⟨k, hf, hk, hle, hgt⟩ := fieldS_found 0 le_rfl
  obtain rfl | h0 : k = 0 ∨ 1 ≤ k := by omega
  · rw [hf]; exact exp_ends.1
  · have := (pw_mono 1 k h0 (by omega)).trans hle
    exact absurd (pw_pos 1 (by omega) (by omega)) (not_lt.mpr this)

end Cert.Scale

end
-- ==== Proof.Spec.lean ====
/- What the layer computes, as functions of the three arrays over the extended reals: the scales and the codes of the
   activations, group by group, and the product. -/
module

public import proofs.«01_k».proof.Proof.Scale

@[expose] public section

noncomputable section

namespace Cert.Scale

open Idealize.ShloMosaic

/-! ## One row of one group -/

/-- The greatest magnitude of a row of 128 activations. -/
def amax (v : Fin 128 → EReal) : EReal :=
  Finset.fold max (Ideal.ofBits .f32 0xFF800000#32) (fun x => max (v x) (-v x)) Finset.univ

/-- The scale of a row. -/
def rowScale (v : Fin 128 → EReal) : EReal := scaleS (amax v * Ideal.ofBits .f32 0x3B124925#32)

/-- The code of an activation of a row. -/
def rowCode (v : Fin 128 → EReal) (l : Fin 128) : EReal :=
  min (Ideal.ofBits .f32 0x43E00000#32) (max (Ideal.ofBits .f32 0xC3E00000#32) (v l * Ideal.div 1 (rowScale v)))

theorem amax_nonneg (v : Fin 128 → EReal) : 0 ≤ amax v := by
  unfold amax
  rw [Finset.le_fold_max]
  refine .inr ⟨0, Finset.mem_univ _, ?_⟩
  rcases le_total 0 (v 0) with h | h
  · exact le_max_of_le_left h
  · exact le_max_of_le_right (EReal.neg_nonneg.mpr h)

theorem ratio_nonneg (v : Fin 128 → EReal) : 0 ≤ amax v * Ideal.ofBits .f32 0x3B124925#32 := by
  refine mul_nonneg (amax_nonneg v) ?_
  have : Ideal.ofBits .f32 0x3B124925#32 = (((9586981 : ℝ) * (2 : ℝ) ^ (-32 : ℤ) : ℝ) : EReal) := by
    simp [Ideal.ofBits, Ideal.ieee]
  rw [this]
  exact_mod_cast (by positivity)

/-! ## The three results -/

/-- Group `g` of row `r` of the activations. -/
def groupRow (x : Fin 24 → Fin 3584 → EReal) (r : Fin 24) (g : Fin 28) : Fin 128 → EReal :=
  fun l => x r ⟨128 * g.val + l.val, by omega⟩

/-- The product at row `r` and column `n`: over all groups, the codes with the weights, times the scale of the
    activations, times the scale of the weights. -/
def product (x : Fin 24 → Fin 3584 → EReal) (w : Fin 4096 → Fin 3584 → EReal) (s : Fin 32 → Fin 28 → EReal)
    (r : Fin 24) (n : Fin 4096) : EReal :=
  ∑ g : Fin 28, (∑ l : Fin 128, rowCode (groupRow x r g) l * w n ⟨128 * g.val + l.val, by omega⟩)
    * rowScale (groupRow x r g) * s ⟨n.val / 128, by omega⟩ g

end Cert.Scale

end
-- ==== Proof.Read.lean ====
/- What the kernel's body computes, read at one index over the extended reals. -/
module

public import proofs.«01_k».proof.Proof.Group
public import proofs.«01_k».proof.Proof.Spec
public import Idealize.ShloMosaic.Lib.Pointwise

@[expose] public section

set_option maxRecDepth 16384

noncomputable section

namespace Cert.KernelIdeal.Run

open Cert.KernelIdeal Cert.KernelIdeal.Gen Cert.Scale
open Idealize.ShloMosaic Idealize.ShloMosaic.TcCoe

/-! ## One row of one group -/

theorem trial_apply (y : FVec Ideal S24x128 .f32) (b : BitVec 32) (f : IVec S24x128 32) (r : Fin 24) (l : Fin 128) :
    trial y b f (ix2 r l) = trialS (y (ix2 r l)) b (f (ix2 r l)) := by
  pointwise [trial]
  rfl

theorem fieldOf_apply (y : FVec Ideal S24x128 .f32) (r : Fin 24) (l : Fin 128) :
    fieldOf y (ix2 r l) = fieldS (y (ix2 r l)) := by
  unfold fieldOf fieldS
  simp only [trial_apply]
  rfl

theorem rowMax_apply (u : Vec Ideal S24x128 .bf16) (r : Fin 24) (l : Fin 128) :
    rowMax u (ix2 r l) = amax (fun x => u (ix2 r x)) := by
  pointwise [rowMax, tileOf]
  rfl

theorem ratio_apply (u : Vec Ideal S24x128 .bf16) (r : Fin 24) (l : Fin 128) :
    ratio u (ix2 r l) = amax (fun x => u (ix2 r x)) * Ideal.ofBits .f32 0x3B124925#32 := by
  pointwise [ratio, rowMax_apply]

theorem expo_apply (u : Vec Ideal S24x128 .bf16) (r : Fin 24) (l : Fin 128) :
    expo u (ix2 r l) = expS (fieldS (amax (fun x => u (ix2 r x)) * Ideal.ofBits .f32 0x3B124925#32)) := by
  pointwise [expo]
  rw [fieldOf_apply, ratio_apply, rowMax_apply]
  by_cases h : amax (fun x => u (ix2 r x)) = 0
  · rw [if_pos h, h, zero_mul, expS_zero]
  · rw [if_neg h]; rfl

theorem powTwo_apply (e : IVec S24x128 32) (r : Fin 24) (l : Fin 128) :
    powTwo (F := Ideal) e (ix2 r l) = powS (e (ix2 r l)) := by
  pointwise [powTwo]
  rfl

/-- The scale of a row is the reference's, -/
theorem scaleOf_apply (u : Vec Ideal S24x128 .bf16) (r : Fin 24) (l : Fin 128) :
    scaleOf u (ix2 r l) = rowScale (fun x => u (ix2 r x)) := by
  unfold scaleOf
  rw [powTwo_apply, expo_apply]
  exact (scale_eq _ (ratio_nonneg _)).1

/-- the other factor is its inverse, -/
theorem invOf_apply (u : Vec Ideal S24x128 .bf16) (r : Fin 24) (l : Fin 128) :
    invOf u (ix2 r l) = Ideal.div 1 (rowScale (fun x => u (ix2 r x))) := by
  unfold invOf
  rw [powTwo_apply]
  show powS (IntOp.subi 0#32 (expo u (ix2 r l))) = _
  rw [expo_apply]
  exact (scale_eq _ (ratio_nonneg _)).2

/-- and the codes are the clipped quotients. -/
theorem clipOf_apply (u : Vec Ideal S24x128 .bf16) (r : Fin 24) (l : Fin 128) :
    clipOf u (ix2 r l) = rowCode (fun x => u (ix2 r x)) l := by
  pointwise [clipOf, tileOf]
  rw [invOf_apply]
  rfl

/-! ## The scales, one to each lane -/

theorem compactOf_succ (X : ℕ → Vec Ideal S24x128 .bf16) (n : ℕ) (hn : n < 128) (r : Fin 24) (l : Fin 128) :
    compactOf X (n + 1) (ix2 r l) = if l.val = n then rowScale (fun x => X n (ix2 r x)) else compactOf X n (ix2 r l) := by
  conv_lhs => rw [compactOf]
  pointwise
  rw [scaleOf_apply]
  unfold Scalar.select IntOp.cmpi
  have hl := l.isLt
  by_cases h : l.val = n
  · rw [if_pos h, h]; simp
  · rw [if_neg h, if_neg]
    have : (BitVec.ofNat 32 l.val == BitVec.ofNat 32 n) = false := by
      rw [beq_eq_false_iff_ne]
      intro he
      have := congrArg BitVec.toNat he
      simp only [BitVec.toNat_ofNat] at this
      omega
    simp [this]

theorem compactOf_apply (X : ℕ → Vec Ideal S24x128 .bf16) (n : ℕ) (hn : n ≤ 128) (r : Fin 24) (l : Fin 128) (hl : l.val < n) :
    compactOf X n (ix2 r l) = rowScale (fun x => X l.val (ix2 r x)) := by
  induction n with
  | zero => omega
  | succ n ih =>
    rw [compactOf_succ X n (by omega)]
    by_cases h : l.val = n
    · rw [if_pos h, h]
    · rw [if_neg h]; exact ih (by omega) (by omega)

/-! ## The product of one group -/

theorem pairOf_apply (q q' : FVec Ideal S24x128 .f32) (r : Fin 64) (l : Fin 256) :
    pairOf q q' (ix2 r l) = if h : r.val < 24 then (if h' : l.val < 128 then q (ix2 ⟨r.val, h⟩ ⟨l.val, h'⟩) else 0)
      else if h1 : r.val - 24 < 24 then (if h' : l.val < 128 then 0 else q' (ix2 ⟨r.val - 24, h1⟩ ⟨l.val - 128, by omega⟩)) else 0 := by
  pointwise [pairOf]

theorem dotOf_apply (l : Vec Ideal S1x64x256 .fp8e4m3) (w : Vec Ideal S512x256 .fp8e4m3) (r : Fin 64) (k : Fin 512) :
    dotOf l w (ix2 r k) = ∑ x : Fin 256, l (ix3 0 r x) * w (ix2 k x) := by
  pointwise [dotOf]

theorem termOf_apply (r : FVec Ideal S64x512 .f32) (s : Vec Ideal S1x24x128 .f32) (w : Elt Ideal .f32) (n c : ℕ) (hc : c < 4)
    (a : Fin 24) (l : Fin 128) :
    termOf r s w n c hc (ix2 a l) = r (ix2 ⟨24 * (n % 2) + a.val, by omega⟩ ⟨128 * c + l.val, by omega⟩) * s (ix3 0 a l) * w := by
  pointwise [termOf]

theorem accOf_congr (L : ℕ → Vec Ideal S1x64x256 .fp8e4m3) (W : ℕ → Vec Ideal S512x256 .fp8e4m3)
    (S : ℕ → Vec Ideal S1x24x128 .f32) (ws : ℕ → ℕ → Elt Ideal .f32) (a : Fin 24) (n c c' : ℕ) (hc : c < 4) (hc' : c' < 4)
    (l l' : ℕ) (hl : l < 128) (hl' : l' < 128) (h : c = c') (h' : l = l') :
    accOf L W S ws c hc n (ix2 a ⟨l, hl⟩) = accOf L W S ws c' hc' n (ix2 a ⟨l', hl'⟩) := by
  subst h; subst h'; rfl

theorem blockOf_apply (L : ℕ → Vec Ideal S1x64x256 .fp8e4m3) (W : ℕ → Vec Ideal S512x256 .fp8e4m3)
    (S : ℕ → Vec Ideal S1x24x128 .f32) (ws : ℕ → ℕ → Elt Ideal .f32) (a : Fin 24) (k : Fin 512) :
    blockOf L W S ws (ix2 a k)
      = accOf L W S ws (k.val / 128) (by omega) 28 (ix2 a ⟨k.val % 128, Nat.mod_lt _ (by decide)⟩) := by
  pointwise [blockOf]
  have hk := k.isLt
  split
  · exact accOf_congr L W S ws a 28 _ _ _ _ _ _ _ _ (by omega) (by omega)
  split
  · exact accOf_congr L W S ws a 28 _ _ _ _ _ _ _ _ (by omega) (by omega)
  split
  · exact accOf_congr L W S ws a 28 _ _ _ _ _ _ _ _ (by omega) (by omega)
  · exact accOf_congr L W S ws a 28 _ _ _ _ _ _ _ _ (by omega) (by omega)

/-- What group `n` adds at row `a` and column `k` of a block: the product of the codes of the row with the weights of the
    column, times the two scales. -/
def groupTerm (V : ℕ → Vec Ideal S24x128 .bf16) (W : ℕ → Vec Ideal S512x256 .fp8e4m3) (ws : ℕ → ℕ → Elt Ideal .f32)
    (a : Fin 24) (k : Fin 512) (n : ℕ) : EReal :=
  (∑ x : Fin 128, rowCode (fun y => V n (ix2 a y)) x * W (n / 2) (ix2 k ⟨128 * (n % 2) + x.val, by omega⟩))
    * rowScale (fun y => V n (ix2 a y)) * ws (k.val / 128) n

theorem dot_pair (q q' : FVec Ideal S24x128 .f32) (l : Vec Ideal S1x64x256 .fp8e4m3) (w : Vec Ideal S512x256 .fp8e4m3)
    (hl : ∀ (r : Fin 64) (x : Fin 256), l (ix3 0 r x) = pairOf q q' (ix2 r x)) (h : ℕ) (hh : h < 2) (a : Fin 24) (k : Fin 512) :
    dotOf l w (ix2 ⟨24 * h + a.val, by omega⟩ k)
      = ∑ x : Fin 128, (if h = 0 then q else q') (ix2 a x) * w (ix2 k ⟨128 * h + x.val, by omega⟩) := by
  rw [dotOf_apply]
  have ha := a.isLt
  rw [Fin.sum_univ_add (a := 128) (b := 128)]
  obtain rfl | rfl : h = 0 ∨ h = 1 := by omega
  · rw [Finset.sum_eq_zero (s := Finset.univ) (f := fun i : Fin 128 => l (ix3 0 _ (Fin.natAdd 128 i)) * _), add_zero]
    · refine Finset.sum_congr rfl (fun x _ => ?_)
      rw [hl, pairOf_apply, dif_pos (by show 24 * 0 + a.val < 24; omega), dif_pos (by exact x.isLt)]
      rw [if_pos rfl]
      have e1 : (⟨(⟨24 * 0 + a.val, by omega⟩ : Fin 64).val, by show 24 * 0 + a.val < 24; omega⟩ : Fin 24) = a := Fin.ext (by show 24 * 0 + a.val = a.val; omega)
      have e2 : (⟨128 * 0 + x.val, by omega⟩ : Fin 256) = Fin.castAdd 128 x := Fin.ext (by show 128 * 0 + x.val = x.val; omega)
      rw [e1, e2]
      rfl
    · intro x _
      rw [hl, pairOf_apply, dif_pos (by show 24 * 0 + a.val < 24; omega), dif_neg (by show ¬128 + x.val < 128; omega), zero_mul]
  · rw [Finset.sum_eq_zero (s := Finset.univ) (f := fun i : Fin 128 => l (ix3 0 _ (Fin.castAdd 128 i)) * _), zero_add]
    · refine Finset.sum_congr rfl (fun x _ => ?_)
      rw [hl, pairOf_apply, dif_neg (by show ¬24 * 1 + a.val < 24; omega), dif_pos (by show 24 * 1 + a.val - 24 < 24; omega),
        dif_neg (by show ¬128 + x.val < 128; omega), if_neg (by decide)]
      have e1 : (⟨(⟨24 * 1 + a.val, by omega⟩ : Fin 64).val - 24, by show 24 * 1 + a.val - 24 < 24; omega⟩ : Fin 24) = a :=
        Fin.ext (by show 24 * 1 + a.val - 24 = a.val; omega)
      have e2 : (⟨128 * 1 + x.val, by omega⟩ : Fin 256) = Fin.natAdd 128 x := Fin.ext (by show 128 * 1 + x.val = 128 + x.val; omega)
      have e3 : (⟨(Fin.natAdd 128 x).val - 128, by show 128 + x.val - 128 < 128; omega⟩ : Fin 128) = x :=
        Fin.ext (by show 128 + x.val - 128 = x.val; omega)
      rw [e1, e2, e3]
    · intro x _
      rw [hl, pairOf_apply, dif_neg (by show ¬24 * 1 + a.val < 24; omega), dif_pos (by show 24 * 1 + a.val - 24 < 24; omega),
        dif_pos (by exact x.isLt), zero_mul]

/-- A column tile after `n` groups is the sum of what they add. -/
theorem accOf_apply (V : ℕ → Vec Ideal S24x128 .bf16) (L : ℕ → Vec Ideal S1x64x256 .fp8e4m3)
    (W : ℕ → Vec Ideal S512x256 .fp8e4m3) (S : ℕ → Vec Ideal S1x24x128 .f32) (ws : ℕ → ℕ → Elt Ideal .f32)
    (hL : ∀ p, p < 14 → ∀ (r : Fin 64) (x : Fin 256), L p (ix3 0 r x) = pairOf (clipOf (V (2 * p))) (clipOf (V (2 * p + 1))) (ix2 r x))
    (hS : ∀ n, n < 28 → ∀ (r : Fin 24) (x : Fin 128), S n (ix3 0 r x) = scaleOf (V n) (ix2 r x))
    (a : Fin 24) (c : ℕ) (hc : c < 4) (l : Fin 128) (n : ℕ) (hn : n ≤ 28) :
    accOf L W S ws c hc n (ix2 a l) = ∑ g ∈ Finset.range n, groupTerm V W ws a ⟨128 * c + l.val, by omega⟩ g := by
  induction n with
  | zero => exact Ideal.ofBits_zero .f32
  | succ n ih =>
    rw [Finset.sum_range_succ, ← ih (by omega)]
    show accOf L W S ws c hc n (ix2 a l) + termOf (dotOf (L (n / 2)) (W (n / 2))) (S n) (ws c n) n c hc (ix2 a l) = _
    rw [termOf_apply, dot_pair _ _ _ _ (hL (n / 2) (by omega)) (n % 2) (Nat.mod_lt _ (by decide)), hS n (by omega), scaleOf_apply]
    refine congrArg _ ?_
    unfold groupTerm
    have e : (128 * c + l.val) / 128 = c := by omega
    dsimp only
    rw [e]
    refine congrArg (· * _) (congrArg (· * _) (Finset.sum_congr rfl (fun x _ => congrArg (· * _) ?_)))
    rw [← clipOf_apply]
    split
    · rw [show 2 * (n / 2) = n by omega]
    · rw [show 2 * (n / 2) + 1 = n by omega]

/-- The block of the product is the sum over all groups. -/
theorem block_value (V : ℕ → Vec Ideal S24x128 .bf16) (L : ℕ → Vec Ideal S1x64x256 .fp8e4m3)
    (W : ℕ → Vec Ideal S512x256 .fp8e4m3) (S : ℕ → Vec Ideal S1x24x128 .f32) (ws : ℕ → ℕ → Elt Ideal .f32)
    (hL : ∀ p, p < 14 → ∀ (r : Fin 64) (x : Fin 256), L p (ix3 0 r x) = pairOf (clipOf (V (2 * p))) (clipOf (V (2 * p + 1))) (ix2 r x))
    (hS : ∀ n, n < 28 → ∀ (r : Fin 24) (x : Fin 128), S n (ix3 0 r x) = scaleOf (V n) (ix2 r x))
    (a : Fin 24) (k : Fin 512) :
    blockOf L W S ws (ix2 a k) = ∑ g : Fin 28, groupTerm V W ws a k g.val := by
  rw [blockOf_apply, accOf_apply V L W S ws hL hS a _ _ _ 28 le_rfl, Finset.sum_range]
  have e : (⟨128 * (k.val / 128) + k.val % 128, by omega⟩ : Fin 512) = k := Fin.ext (Nat.div_add_mod k.val 128)
  dsimp only
  rw [e]

end Cert.KernelIdeal.Run

end
-- ==== Proof.Pieces.lean ====
/- The pieces that the body stores, group by group: the lists of the body's run are the lists of `Group`. -/
module

public import proofs.«01_k».proof.Proof.Group

@[expose] public section

set_option maxRecDepth 16384

noncomputable section

namespace Cert.KernelIdeal.Run

open Cert.KernelIdeal Cert.KernelIdeal.Gen
open Idealize.ShloMosaic Idealize.ShloMosaic.TcCoe Idealize.ShloMosaic.Tactic

variable {F : FTy → Type} [FloatOps F]

variable (c : Dev nD) (i : grid0.Coords)
    (arg1 : Memref sig .tc .vmem S24x3584 .bf16) (harg1 : arg1.IsWhole) (arg2 : Memref sig .tc .vmem S512x3584 .fp8e4m3) (harg2 : arg2.IsWhole)
    (arg3 : Memref sig .tc .smem S32x28 .f32) (harg3 : arg3.IsWhole) (arg4 : Memref sig .tc .vmem S24x512 .bf16) (harg4 : arg4.IsWhole)
    (arg5 : Memref sig .tc .vmem S28x24x128 .fp8e4m3) (harg5 : arg5.IsWhole) (arg6 : Memref sig .tc .vmem S24x28 .f32) (harg6 : arg6.IsWhole)
    (arg7 : Memref sig .tc .vmem S14x64x256 .fp8e4m3) (harg7 : arg7.IsWhole) (arg8 : Memref sig .tc .vmem S28x24x128 .f32) (harg8 : arg8.IsWhole)
    (x0 : Vec F S24x3584 .bf16) (x1 : Vec F S512x3584 .fp8e4m3) (x2 : Vec F S32x28 .f32)

/-- The load of the activations of group `n`. -/
def loadGroup (n : ℕ) : Vec F S24x128 .bf16 :=
  View.readAt (Elt F) arg1.view (Rect.unit (s := S24x3584) ![0, 128 * (n % 28)] S24x128.size (inbGroup n)).toLoadRect (harg1.unread x0)

/-- The load of the weights of pair `n`. -/
def loadWeights (n : ℕ) : Vec F S512x256 .fp8e4m3 :=
  View.readAt (Elt F) arg2.view (Rect.unit (s := S512x3584) ![0, 256 * (n % 14)] S512x256.size (inbWeights n)).toLoadRect (harg2.unread x1)

/-- The load of the scale of the weights of column tile `k` and group `n`. -/
def loadWs (k n : ℕ) : Elt F .f32 :=
  View.readAt (Elt F) arg3.view (Rect.unit (s := S32x28) (wsOff i k n) S1x1.size (inbWs i k n)).toLoadRect (harg3.unread x2)
    (Shape.Idx.first (by show 0 < S1x1.numel; rw [numel1_S1x1]; exact Nat.one_pos))

/-- The codes stored at the first point. -/
theorem codes_eq (hc0 : cond0_0 i) :
    (kernelRun0_A c i arg1 harg1 arg2 harg2 arg3 harg3 arg4 harg4 arg5 harg5 arg6 harg6 arg7 harg7 arg8 harg8 hc0 x0 x1 x2).2.1
      = codePieces (loadGroup arg1 harg1 x0) 28 (Nat.le_refl _) := by
  sl_kernel_rfl

/-- The scales stored into the scratch buffer at the first point. -/
theorem scales_eq (hc0 : cond0_0 i) :
    (kernelRun0_A c i arg1 harg1 arg2 harg2 arg3 harg3 arg4 harg4 arg5 harg5 arg6 harg6 arg7 harg7 arg8 harg8 hc0 x0 x1 x2).2.2.2.2.1
      = scalePieces (loadGroup arg1 harg1 x0) 28 (Nat.le_refl _) := by
  sl_kernel_rfl

/-- The scales stored into the result's buffer at the first point. -/
theorem compact_eq (hc0 : cond0_0 i) :
    (kernelRun0_A c i arg1 harg1 arg2 harg2 arg3 harg3 arg4 harg4 arg5 harg5 arg6 harg6 arg7 harg7 arg8 harg8 hc0 x0 x1 x2).2.2.1
      = compactPieces (loadGroup arg1 harg1 x0) := by
  sl_kernel_rfl

/-- The left operands stored at the first point. -/
theorem pairs_eq (hc0 : cond0_0 i) :
    (kernelRun0_A c i arg1 harg1 arg2 harg2 arg3 harg3 arg4 harg4 arg5 harg5 arg6 harg6 arg7 harg7 arg8 harg8 hc0 x0 x1 x2).2.2.2.1
      = pairPieces (loadGroup arg1 harg1 x0) 14 (Nat.le_refl _) := by
  sl_kernel_rfl

/-- The piece stored into the block of the product at the first point: its loads of the scratch buffers read what the
    point itself stored. -/
theorem block_eq_A (hc0 : cond0_0 i) :
    (kernelRun0_A c i arg1 harg1 arg2 harg2 arg3 harg3 arg4 harg4 arg5 harg5 arg6 harg6 arg7 harg7 arg8 harg8 hc0 x0 x1 x2).1
      = [⟨Rect.unit (s := S24x512) ![0, 0] S24x512.size inb_S24x512_S24x512_0_0,
          blockOf
            (fun n => arg7.view.readCov (pairPieces (loadGroup arg1 harg1 x0) 14 (Nat.le_refl _))
              (Rect.unit (s := S14x64x256) ![n % 14, 0, 0] S1x64x256.size (inbPair' n)).toLoadRect)
            (loadWeights arg2 harg2 x1)
            (fun n => arg8.view.readCov (scalePieces (loadGroup arg1 harg1 x0) 28 (Nat.le_refl _))
              (Rect.unit (s := S28x24x128) ![n % 28, 0, 0] S1x24x128.size (inbRow' n)).toLoadRect)
            (loadWs i arg3 harg3 x2)⟩] := by
  sl_kernel_rfl

/-- The piece stored into the block of the product at every later point. -/
theorem block_eq_B (hc0 : ¬cond0_0 i) (xs0 : Vec F S14x64x256 .fp8e4m3) (xs1 : Vec F S28x24x128 .f32) :
    (kernelRun0_B c i arg1 harg1 arg2 harg2 arg3 harg3 arg4 harg4 arg5 harg5 arg6 harg6 arg7 harg7 arg8 harg8 hc0 x0 x1 x2 xs0 xs1).1
      = [⟨Rect.unit (s := S24x512) ![0, 0] S24x512.size inb_S24x512_S24x512_0_0,
          blockOf
            (fun n => arg7.view.readAt (Elt F)
              (Rect.unit (s := S14x64x256) ![n % 14, 0, 0] S1x64x256.size (inbPair' n)).toLoadRect (harg7.unread xs0))
            (loadWeights arg2 harg2 x1)
            (fun n => arg8.view.readAt (Elt F)
              (Rect.unit (s := S28x24x128) ![n % 28, 0, 0] S1x24x128.size (inbRow' n)).toLoadRect (harg8.unread xs1))
            (loadWs i arg3 harg3 x2)⟩] := by
  sl_kernel_rfl

end Cert.KernelIdeal.Run

end
-- ==== Proof.Stored.lean ====
/- What the first point stores, read back at one index over the extended reals. -/
module

public import proofs.«01_k».proof.Proof.Read
public import proofs.«01_k».proof.Proof.Pieces

@[expose] public section

set_option maxRecDepth 16384

noncomputable section

namespace Cert.KernelIdeal.Run

open Cert.KernelIdeal Cert.KernelIdeal.Gen Cert.Scale
open Idealize.ShloMosaic Idealize.ShloMosaic.TcCoe

/-- An index under the newest piece reads its payload, -/
theorem canon_mem {Val : EltTy → Type} [∀ e, Nonempty (Val e)] {s : Shape} {e : EltTy} {off size : Fin s.rank → ℕ}
    (inb : ∀ a, off a + size a ≤ s.size a) (w : (Rect.unit off size inb).shape.Idx → Val e) (L : List (View.Piece Val s e))
    (y : s.Idx) (x : (Rect.unit off size inb).shape.Idx) (hx : ∀ a, (y a).val = off a + (x a).val) :
    View.canon ((⟨Rect.unit off size inb, w⟩ : View.Piece Val s e) :: L) y = w x := by
  have hy : (Rect.unit off size inb).emb x = y := funext fun a => Fin.ext (by
    show off a + 1 * (x a).val = (y a).val
    rw [hx a, Nat.one_mul])
  rw [← hy]
  exact View.canon_cons_emb _ w L x

/-- and one outside it on some axis what the earlier pieces left. -/
theorem canon_not_mem {Val : EltTy → Type} [∀ e, Nonempty (Val e)] {s : Shape} {e : EltTy} {off size : Fin s.rank → ℕ}
    (inb : ∀ a, off a + size a ≤ s.size a) (w : (Rect.unit off size inb).shape.Idx → Val e) (L : List (View.Piece Val s e))
    (y : s.Idx) (a : Fin s.rank) (ha : (y a).val < off a ∨ off a + size a ≤ (y a).val) :
    View.canon ((⟨Rect.unit off size inb, w⟩ : View.Piece Val s e) :: L) y = View.canon L y := by
  refine View.canon_cons_of_not_mem _ L ?_
  rw [Rect.mem_set_unit]
  intro hall
  have := hall a
  omega

variable (X : ℕ → Vec Ideal S24x128 .bf16)

/-- The codes of group `g`. -/
theorem codes_read (n : ℕ) (h : n ≤ 28) (g : Fin 28) (hg : g.val < n) (r : Fin 24) (l : Fin 128) :
    View.canon (codePieces X n h) (ix3 g r l) = rowCode (fun y => X g.val (ix2 r y)) l := by
  induction n with
  | zero => omega
  | succ n ih =>
    rw [codePieces]
    by_cases hc : g.val = n
    · subst hc
      refine (canon_mem _ _ _ (ix3 g r l) (ix3 (0 : Fin 1) r l) ?_).trans ?_
      · intro a
        fin_cases a
        · rfl
        · exact (Nat.zero_add _).symm
        · exact (Nat.zero_add _).symm
      · rw [← clipOf_apply]
        pointwise
    · refine (canon_not_mem _ _ _ (ix3 g r l) 0 (.inl (by show g.val < n; omega))).trans ?_
      exact ih _ (by omega)

/-- The scales of group `g`. -/
theorem scales_read (n : ℕ) (h : n ≤ 28) (g : Fin 28) (hg : g.val < n) (r : Fin 24) (l : Fin 128) :
    View.canon (scalePieces X n h) (ix3 g r l) = scaleOf (X g.val) (ix2 r l) := by
  induction n with
  | zero => omega
  | succ n ih =>
    rw [scalePieces]
    by_cases hc : g.val = n
    · subst hc
      refine (canon_mem _ _ _ (ix3 g r l) (ix3 (0 : Fin 1) r l) ?_).trans ?_
      · intro a
        fin_cases a
        · rfl
        · exact (Nat.zero_add _).symm
        · exact (Nat.zero_add _).symm
      · pointwise
    · refine (canon_not_mem _ _ _ (ix3 g r l) 0 (.inl (by show g.val < n; omega))).trans ?_
      exact ih _ (by omega)

/-- The left operand of pair `p`. -/
theorem pairs_read (n : ℕ) (h : n ≤ 14) (p : Fin 14) (hp : p.val < n) (r : Fin 64) (l : Fin 256) :
    View.canon (pairPieces X n h) (ix3 p r l) = pairOf (clipOf (X (2 * p.val))) (clipOf (X (2 * p.val + 1))) (ix2 r l) := by
  induction n with
  | zero => omega
  | succ n ih =>
    rw [pairPieces]
    by_cases hc : p.val = n
    · subst hc
      refine (canon_mem _ _ _ (ix3 p r l) (ix3 (0 : Fin 1) r l) ?_).trans ?_
      · intro a
        fin_cases a
        · rfl
        · exact (Nat.zero_add _).symm
        · exact (Nat.zero_add _).symm
      · pointwise
    · refine (canon_not_mem _ _ _ (ix3 p r l) 0 (.inl (by show p.val < n; omega))).trans ?_
      exact ih _ (by omega)

/-- The scales as the result holds them. -/
theorem compact_read (r : Fin 24) (g : Fin 28) :
    View.canon (compactPieces X) (ix2 r g) = rowScale (fun y => X g.val (ix2 r y)) := by
  unfold compactPieces
  refine (canon_mem _ _ _ (ix2 r g) (ix2 r g) ?_).trans ?_
  · intro a
    fin_cases a
    · exact (Nat.zero_add _).symm
    · exact (Nat.zero_add _).symm
  · rw [← compactOf_apply X 28 (by omega) r ⟨g.val, by omega⟩ g.isLt]
    pointwise

end Cert.KernelIdeal.Run

end
-- ==== Proof.KernelValue.lean ====
/- What the kernel's three result arrays hold after the run, over the extended reals. -/
module

public import proofs.«01_k».proof.Proof.Stored
public import Idealize.ShloMosaic.Lib.Pipeline.ValueKit
public import Idealize.ShloMosaic.Lib.Claim
public import Idealize.ShloMosaic.Lib.WholeRead

@[expose] public section

set_option maxRecDepth 16384

noncomputable section

namespace Cert.KernelIdeal.Run

open Cert.KernelIdeal Cert.KernelIdeal.Gen Cert.Scale
open Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-! ## The arguments -/

/-- The activations, -/
def argX (c : Dev nD) : Fin 24 → Fin 3584 → EReal :=
  fun r k => (show FVec Ideal S24x1x3584 .bf16 from m ((c : Thread nD τ).loc main_arg0)) (ix3 r 0 k)

/-- the codes of the weights, -/
def argW (c : Dev nD) : Fin 4096 → Fin 3584 → EReal :=
  fun n k => (show FVec Ideal S4096x3584 .fp8e4m3 from m ((c : Thread nD τ).loc main_arg1)) (ix2 n k)

/-- and their scales. -/
def argS (c : Dev nD) : Fin 32 → Fin 28 → EReal :=
  fun a g => (show FVec Ideal S32x28 .f32 from m ((c : Thread nD τ).loc main_arg2)) (ix2 a g)

/-! ## The blocks -/

/-- The windows' index maps. -/
theorem idx : ∀ t : Fin cfg0.N, win0_0.index t = ![0, 0] ∧ win0_1.index t = ![t.val, 0] ∧ win0_2.index t = ![0, 0]
    ∧ win0_3.index t = ![0, t.val] ∧ win0_4.index t = ![0, 0, 0] ∧ win0_5.index t = ![0, 0] :=
  (by decide +kernel : ∀ t : Fin grid0.N, _)

theorem iblk0_apply (c : Dev nD) (t : Fin cfg0.N) (r : Fin 24) (k : Fin 3584) :
    (show FVec Ideal S24x3584 .bf16 from iblk m c 0 t) (ix2 r k) = argX m c r k := by
  unfold argX
  have e : (show FVec Ideal S24x3584 .bf16 from iblk m c 0 t) (ix2 r k)
      = (show FVec Ideal S24x3584 .bf16 from V m c main_v0) (ix2 r k) := by
    blk_ext [iblk, idx t]
  rw [e]
  unfold V V0
  show StableHlo.after hostOps0 _ _ _ = _
  entry_read
  pointwise

theorem iblk1_apply (c : Dev nD) (t : Fin cfg0.N) (n : Fin 512) (k : Fin 3584) (h : 512 * t.val + n.val < 4096) :
    (show FVec Ideal S512x3584 .fp8e4m3 from iblk m c 1 t) (ix2 n k) = argW m c ⟨512 * t.val + n.val, h⟩ k := by
  unfold argW
  blk_ext [iblk, V, idx t]

theorem iblk2_apply (c : Dev nD) (t : Fin cfg0.N) (a : Fin 32) (g : Fin 28) :
    (show FVec Ideal S32x28 .f32 from iblk m c 2 t) (ix2 a g) = argS m c a g := by
  unfold argS
  blk_ext [iblk, V, idx t]

/-! ## The loads -/

/-- Where the body loads the scale of the weights from. -/
theorem off1 : ∀ t : Fin cfg0.N, ∀ k : Fin 4, k0_off1 (grid0.coords t) (BitVec.ofNat 32 k.val) 0 = 4 * t.val + k.val :=
  (by decide +kernel : ∀ t : Fin grid0.N, ∀ k : Fin 4, k0_off1 (grid0.coords t) (BitVec.ofNat 32 k.val) 0 = 4 * t.val + k.val)

/-- The activations of group `n` as point `t` loads them. -/
def grp (c : Dev nD) (t : Fin cfg0.N) (n : ℕ) : Vec Ideal S24x128 .bf16 := loadGroup (ms0_0 t) (hs0_0 t) (iblk m c 0 t) n

theorem grp_apply (c : Dev nD) (t : Fin cfg0.N) (g : Fin 28) (r : Fin 24) :
    (fun y => grp m c t g.val (ix2 r y)) = groupRow (argX m c) r g := by
  funext y
  unfold grp loadGroup groupRow
  rw [Memref.IsWhole.readAt_unread, ← iblk0_apply m c t]
  refine congrArg (show FVec Ideal S24x3584 .bf16 from iblk m c 0 t) (funext fun a => Fin.ext ?_)
  have := g.isLt
  fin_cases a
  · show 0 + 1 * r.val = r.val; omega
  · show 128 * (g.val % 28) + 1 * y.val = 128 * g.val + y.val; omega

theorem weights_apply (c : Dev nD) (t : Fin cfg0.N) (g : Fin 28) (k : Fin 512) (x : Fin 128)
    (h : 512 * t.val + k.val < 4096) (h1 : 128 * (g.val % 2) + x.val < 256) (h2 : 128 * g.val + x.val < 3584) :
    loadWeights (ms0_1 t) (hs0_1 t) (iblk m c 1 t) (g.val / 2) (ix2 k ⟨128 * (g.val % 2) + x.val, h1⟩)
      = argW m c ⟨512 * t.val + k.val, h⟩ ⟨128 * g.val + x.val, h2⟩ := by
  unfold loadWeights
  rw [Memref.IsWhole.readAt_unread, ← iblk1_apply m c t k ⟨128 * g.val + x.val, h2⟩ h]
  refine congrArg (show FVec Ideal S512x3584 .fp8e4m3 from iblk m c 1 t) (funext fun a => Fin.ext ?_)
  have := g.isLt
  fin_cases a
  · show 0 + 1 * k.val = k.val; omega
  · show 256 * (g.val / 2 % 14) + 1 * (128 * (g.val % 2) + x.val) = 128 * g.val + x.val; omega

theorem ws_apply (c : Dev nD) (t : Fin cfg0.N) (g : Fin 28) (k : ℕ) (hk : k < 4) (h : 4 * t.val + k < 32) :
    loadWs (grid0.coords t) (ms0_2 t) (hs0_2 t) (iblk m c 2 t) k g.val = argS m c ⟨4 * t.val + k, h⟩ g := by
  unfold loadWs
  rw [Memref.IsWhole.readAt_unread, ← iblk2_apply m c t]
  refine congrArg (show FVec Ideal S32x28 .f32 from iblk m c 2 t) (funext fun a => Fin.ext ?_)
  have := g.isLt
  have e := off1 t ⟨k % 4, Nat.mod_lt _ (by decide)⟩
  dsimp only at e
  fin_cases a
  · show k0_off1 (grid0.coords t) (BitVec.ofNat 32 (k % 4)) 0 + 1 * 0 = 4 * t.val + k
    rw [e]; omega
  · show g.val % 28 + 1 * 0 = g.val; omega

/-! ## What the first point leaves -/

theorem scr0_eq (c : Dev nD) : scr0 m c = View.canon (pairPieces (grp m c t0) 14 (Nat.le_refl _)) := by
  unfold scr0 out0_A_s0
  rw [View.read_writes_junk_eq_canon, pairs_eq]
  rfl

theorem scr1_eq (c : Dev nD) : scr1 m c = View.canon (scalePieces (grp m c t0) 28 (Nat.le_refl _)) := by
  unfold scr1 out0_A_s1
  rw [View.read_writes_junk_eq_canon, scales_eq]
  rfl

/-- The codes, -/
theorem fin4_apply (c : Dev nD) (g : Fin 28) (r : Fin 24) (l : Fin 128) :
    fin4 m c (ix3 g r l) = rowCode (groupRow (argX m c) r g) l := by
  unfold fin4 out0_A_4
  rw [View.read_writes_junk_eq_canon, codes_eq, ← grp_apply m c t0]
  exact codes_read (grp m c t0) 28 _ g g.isLt r l

/-- and the scales. -/
theorem fin5_apply (c : Dev nD) (r : Fin 24) (g : Fin 28) :
    fin5 m c (ix2 r g) = rowScale (groupRow (argX m c) r g) := by
  unfold fin5 out0_A_5
  rw [View.read_writes_junk_eq_canon, compact_eq, ← grp_apply m c t0]
  exact compact_read (grp m c t0) r g

/-! ## The blocks of the product -/

/-- The sum of what the groups add is the product. -/
theorem sum_groups (c : Dev nD) (t t' : Fin cfg0.N) (a : Fin 24) (k : Fin 512) (h : 512 * t.val + k.val < 4096) :
    ∑ g : Fin 28, groupTerm (grp m c t') (loadWeights (ms0_1 t) (hs0_1 t) (iblk m c 1 t))
        (loadWs (grid0.coords t) (ms0_2 t) (hs0_2 t) (iblk m c 2 t)) a k g.val
      = product (argX m c) (argW m c) (argS m c) a ⟨512 * t.val + k.val, h⟩ := by
  unfold product
  refine Finset.sum_congr rfl (fun g _ => ?_)
  unfold groupTerm
  have hk := k.isLt
  rw [grp_apply, ws_apply m c t g (k.val / 128) (by omega) (by omega)]
  have e : (⟨4 * t.val + k.val / 128, by omega⟩ : Fin 32) = ⟨(512 * t.val + k.val) / 128, by omega⟩ := Fin.ext (by
    show 4 * t.val + k.val / 128 = (512 * t.val + k.val) / 128; omega)
  rw [e]
  refine congrArg (· * _) (congrArg (· * _) (Finset.sum_congr rfl (fun x _ => congrArg₂ (· * ·) rfl ?_)))
  exact weights_apply m c t g k x h _ _

theorem idx_pair (p : ℕ) (hp : p < 14) (r : Fin 64) (x : Fin 256) :
    (Rect.unit (s := S14x64x256) ![p % 14, 0, 0] S1x64x256.size (inbPair' p)).toLoadRect.idx (ix3 (0 : Fin 1) r x)
      = ix3 (⟨p, hp⟩ : Fin 14) r x := by
  refine funext fun a => Fin.ext ?_
  fin_cases a
  · show p % 14 + 1 * 0 = p; omega
  · show 0 + 1 * r.val = r.val; omega
  · show 0 + 1 * x.val = x.val; omega

theorem idx_row (n : ℕ) (hn : n < 28) (r : Fin 24) (x : Fin 128) :
    (Rect.unit (s := S28x24x128) ![n % 28, 0, 0] S1x24x128.size (inbRow' n)).toLoadRect.idx (ix3 (0 : Fin 1) r x)
      = ix3 (⟨n, hn⟩ : Fin 28) r x := by
  refine funext fun a => Fin.ext ?_
  fin_cases a
  · show n % 28 + 1 * 0 = n; omega
  · show 0 + 1 * r.val = r.val; omega
  · show 0 + 1 * x.val = x.val; omega

/-- What every point leaves in the block of the product. -/
theorem fin3_apply (c : Dev nD) (t : Fin cfg0.N) (a : Fin 24) (k : Fin 512) (h : 512 * t.val + k.val < 4096) :
    fin3 m c t (ix2 a k) = product (argX m c) (argW m c) (argS m c) a ⟨512 * t.val + k.val, h⟩ := by
  have hz : ∀ b : Fin 2, ((ix2 a k : S24x512.Idx) b).val = (![0, 0] : Fin 2 → ℕ) b + ((ix2 a k : S24x512.Idx) b).val := by
    intro b
    fin_cases b
    · exact (Nat.zero_add _).symm
    · exact (Nat.zero_add _).symm
  by_cases h0 : t.val % 8 = 0
  · rw [fin3_A m c t h0]
    unfold out0_A_3
    rw [View.read_writes_junk_eq_canon, block_eq_A]
    refine (canon_mem _ _ _ (ix2 a k) (ix2 a k) hz).trans ?_
    refine (block_value (grp m c t) _ _ _ _ ?_ ?_ a k).trans (sum_groups m c t t a k h)
    · intro p hp r x
      rw [View.readCov_eq_canon']
      refine (congrArg (View.canon _) (idx_pair p hp r x)).trans ?_
      exact pairs_read (grp m c t) 14 _ ⟨p, hp⟩ hp r x
    · intro n hn r x
      rw [View.readCov_eq_canon']
      refine (congrArg (View.canon _) (idx_row n hn r x)).trans ?_
      exact scales_read (grp m c t) 28 _ ⟨n, hn⟩ hn r x
  · rw [fin3_B m c t h0]
    unfold out0_B_3
    rw [View.read_writes_junk_eq_canon, block_eq_B]
    refine (canon_mem _ _ _ (ix2 a k) (ix2 a k) hz).trans ?_
    refine (block_value (grp m c t0) _ _ _ _ ?_ ?_ a k).trans (sum_groups m c t t0 a k h)
    · intro p hp r x
      rw [Memref.IsWhole.readAt_unread, idx_pair p hp, scr0_eq]
      exact pairs_read (grp m c t0) 14 _ ⟨p, hp⟩ hp r x
    · intro n hn r x
      rw [Memref.IsWhole.readAt_unread, idx_row n hn, scr1_eq]
      exact scales_read (grp m c t0) 28 _ ⟨n, hn⟩ hn r x

end Cert.KernelIdeal.Run

end
-- ==== Proof.KernelRun.lean ====
/- The kernel's run, its three result arrays named by what the layer computes. -/
module

public import proofs.«01_k».proof.Proof.KernelValue

@[expose] public section

set_option maxRecDepth 16384

noncomputable section

namespace Cert.KernelIdeal.Run

open Cert.KernelIdeal Cert.KernelIdeal.Gen Cert.Scale
open Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The array of the product, -/
theorem final3 (c : Dev nD) : (dats m 0 c).arrAt 3 cfg0.N
    = fun i : S24x4096.Idx => product (argX m c) (argW m c) (argS m c) (i 0) (i 1) := by
  refine (dats m 0 c).arrAt_eq_of_covers 3 _ (by decide +kernel) fun t _ y => ?_
  blk_simp
  rw [after0_3]
  idx_vars y
  have hN : t.val < 8 := lt_of_lt_of_eq t.isLt N_0
  rw [fin3_apply m c t y0 y1 (by omega)]
  refine congrArg₂ (product (argX m c) (argW m c) (argS m c)) (Fin.ext ?_) (Fin.ext ?_)
  · blk_simp [idx t]
  · blk_simp [idx t]
    show 512 * t.val + y1.val = _
    omega

/-- of the codes, -/
theorem final4 (c : Dev nD) : (dats m 0 c).arrAt 4 cfg0.N
    = fun i : S28x24x128.Idx => rowCode (groupRow (argX m c) (i 1) (i 0)) (i 2) := by
  refine (dats m 0 c).arrAt_eq_of_covers 4 _ (by decide +kernel) fun t _ y => ?_
  blk_simp
  rw [after0_4]
  idx_vars y
  rw [fin4_apply]
  have e : ((win0 4).blk t).view.emb (ix3 y0 y1 y2) = (ix3 y0 y1 y2 : S28x24x128.Idx) := by
    blk_ext [idx t]
  exact (congrArg (fun i : S28x24x128.Idx => rowCode (groupRow (argX m c) (i 1) (i 0)) (i 2)) e).symm

/-- and of the scales. -/
theorem final5 (c : Dev nD) : (dats m 0 c).arrAt 5 cfg0.N
    = fun i : S24x28.Idx => rowScale (groupRow (argX m c) (i 0) (i 1)) := by
  refine (dats m 0 c).arrAt_eq_of_covers 5 _ (by decide +kernel) fun t _ y => ?_
  blk_simp
  rw [after0_5]
  idx_vars y
  rw [fin5_apply]
  have e : ((win0 5).blk t).view.emb (ix2 y0 y1) = (ix2 y0 y1 : S24x28.Idx) := by
    blk_ext [idx t]
  exact (congrArg (fun i : S24x28.Idx => rowScale (groupRow (argX m c) (i 0) (i 1))) e).symm

/-! ## The lines after the call -/

/-- The product with an axis of extent one, -/
theorem tail_v2 (c : Dev nD) : Pipeline.afterTail₀ cfgs (dats m) 0 (V0 m) [hostOps1] c main_v2
    = fun i : S24x1x4096.Idx => product (argX m c) (argW m c) (argS m c) (i 0) (i 2) := by
  have e : Pipeline.afterTail₀ cfgs (dats m) 0 (V0 m) [hostOps1] c main_v2
      = shapeCast S24x1x4096 (show FVec Ideal S24x4096 .bf16 from (dats m 0 c).arrAt 3 cfg0.N) shapeCasts_S24x4096_S24x1x4096 := by
    unfold Pipeline.afterTail₀
    show StableHlo.after hostOps1 _ _ = _
    entry_read
    exact congrArg (fun A => shapeCast S24x1x4096 (show FVec Ideal S24x4096 .bf16 from A) shapeCasts_S24x4096_S24x1x4096)
      (Pipeline.withArrays_arr _ launch0.win.arr_inj c _ _ 3)
  rw [e, final3]
  funext y
  idx_vars y
  pointwise

/-- and the codes with the rows leading. -/
theorem tail_v3 (c : Dev nD) : Pipeline.afterTail₀ cfgs (dats m) 0 (V0 m) [hostOps1] c main_v3
    = fun i : S24x28x128.Idx => rowCode (groupRow (argX m c) (i 0) (i 1)) (i 2) := by
  have e : Pipeline.afterTail₀ cfgs (dats m) 0 (V0 m) [hostOps1] c main_v3
      = transpose S24x28x128 [1, 0, 2] (show FVec Ideal S28x24x128 .fp8e4m3 from (dats m 0 c).arrAt 4 cfg0.N)
          transposes_S28x24x128_S24x28x128_1_0_2 := by
    unfold Pipeline.afterTail₀
    show StableHlo.after hostOps1 _ _ = _
    entry_read
    exact congrArg (fun A => transpose S24x28x128 [1, 0, 2] (show FVec Ideal S28x24x128 .fp8e4m3 from A)
      transposes_S28x24x128_S24x28x128_1_0_2)
      (Pipeline.withArrays_arr _ launch0.win.arr_inj c _ _ 4)
  rw [e, final4]
  funext y
  idx_vars y
  pointwise

/-- After the kernel's run its three results hold the product, the codes and the scales of its arguments, which it
    leaves as they were. -/
theorem run_value : θ_run defs (onTc (τ := τ) (main (F := Ideal))) ⟨m, fun _ => 0, ρ⟩ fun r => ∀ c : Dev nD,
      r.2.mem ((c : Thread nD τ).loc main_v2)
        = (fun i : S24x1x4096.Idx => product (argX m c) (argW m c) (argS m c) (i 0) (i 2))
      ∧ r.2.mem ((c : Thread nD τ).loc main_v3)
        = (fun i : S24x28x128.Idx => rowCode (groupRow (argX m c) (i 0) (i 1)) (i 2))
      ∧ r.2.mem ((c : Thread nD τ).loc main_v1_2)
        = (fun i : S24x28.Idx => rowScale (groupRow (argX m c) (i 0) (i 1)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨
      ((h c).2 main_v2 (Pipeline.mem_restRefs_of main_v2 (by decide) (by decide))).trans (tail_v2 m c),
      ((h c).2 main_v3 (Pipeline.mem_restRefs_of main_v3 (by decide) (by decide))).trans (tail_v3 m c),
      ((h c).1 5).trans (final5 m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c)))⟩)
    (run_main m ρ)

end Cert.KernelIdeal.Run

end
-- ==== Proof.RefRead.lean ====
/- What the reference's body computes, read at one index over the extended reals. -/
module

public import proofs.«01_k».proof.Proof.Gen.ReferenceIdeal.Skeleton
public import proofs.«01_k».proof.Proof.Spec
public import Idealize.ShloMosaic.Lib.Pointwise

@[expose] public section

set_option maxRecDepth 16384

noncomputable section

namespace Cert.ReferenceIdeal.Run

open Cert.ReferenceIdeal Cert.ReferenceIdeal.Gen Cert.Scale
open Idealize.ShloMosaic Idealize.ShloMosaic.TcCoe

/-- The scales, one to a row of a group, -/
theorem scale_apply (v : Vec Ideal S24x28x128 .bf16) (r : Fin 24) (g : Fin 28) :
    k0_pay3 v (ix2 r g) = rowScale (fun x => v (ix3 r g x)) := by
  pointwise [k0_pay3, k0_pay2]
  have hp : ∀ n : Fin 254, Ideal.ofBits .f32 (IntOp.shli .vector (IntOp.addi (BitVec.ofNat 32 n.val) 1#32) 23#32) = pw (n.val + 1) := by
    intro n
    unfold pw Cert.Scale.fp IntOp.addi
    rw [BitVec.ofNat_add]
  simp only [hp]
  have h2 : Ideal.ofBits .f32 0x40000000#32 = (2 : EReal) := by
    simp [Ideal.ofBits, Ideal.ieee]
    exact (EReal.coe_mul _ _).symm.trans (congrArg (fun x : ℝ => (x : EReal)) (by norm_num : _ = (2 : ℝ)))
  rw [h2,
    show Ideal.ofBits .f32 0x7F800000#32 = (⊤ : EReal) by simp [Ideal.ofBits, Ideal.ieee]]
  show Scalar.select (IntOp.ori (BitVec.ofBool (decide (below (amax (fun x => v (ix3 r g x)) * Ideal.ofBits .f32 0x3B124925#32) = 0)))
    (BitVec.ofBool (decide (amax (fun x => v (ix3 r g x)) * Ideal.ofBits .f32 0x3B124925#32 = ⊤)))) (1 : EReal)
    (2 * below (amax (fun x => v (ix3 r g x)) * Ideal.ofBits .f32 0x3B124925#32)) = _
  unfold rowScale scaleS
  generalize amax (fun x => v (ix3 r g x)) * Ideal.ofBits .f32 0x3B124925#32 = y
  by_cases h : y = ⊤
  · subst h
    by_cases h1 : below ⊤ = 0 <;> simp [h1, Scalar.select, IntOp.ori]
  · by_cases h1 : below y = 0 <;> simp [h, h1, Scalar.select, IntOp.ori]

/-- the codes, -/
theorem code_apply (v : Vec Ideal S24x28x128 .bf16) (r : Fin 24) (g : Fin 28) (l : Fin 128) :
    k0_pay4 v (ix3 r g l) = rowCode (fun x => v (ix3 r g x)) l := by
  pointwise [k0_pay4, k0_pay2]
  rw [scale_apply]
  rfl

/-- and the product. -/
theorem prod_apply (sc : FVec Ideal S24x28 .f32) (q : FVec Ideal S24x28x128 .fp8e4m3) (w : Vec Ideal S4096x28x128 .fp8e4m3)
    (s : Vec Ideal S32x28 .f32) (r : Fin 24) (n : Fin 4096) :
    k0_pay1 sc q w s (ix3 r 0 n)
      = ∑ g : Fin 28, (∑ l : Fin 128, q (ix3 r g l) * w (ix3 n g l)) * sc (ix2 r g) * s (ix2 ⟨n.val / 128, by omega⟩ g) := by
  pointwise [k0_pay1]

end Cert.ReferenceIdeal.Run

end
-- ==== Proof.RefRun.lean ====
/- The reference's run, its three result arrays named by what the layer computes. -/
module

public import proofs.«01_k».proof.Proof.RefRead
public import proofs.«01_k».proof.Proof.Gen.ReferenceIdeal.Value
public import Idealize.ShloMosaic.Lib.Pipeline.ValueKit
public import Idealize.ShloMosaic.Lib.Claim

@[expose] public section

set_option maxRecDepth 16384

noncomputable section

namespace Cert.ReferenceIdeal.Run

open Cert.ReferenceIdeal Cert.ReferenceIdeal.Gen Cert.Scale
open Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-! ## The arguments -/

/-- The activations, -/
def argX (c : Dev nD) : Fin 24 → Fin 3584 → EReal :=
  fun r k => (show FVec Ideal S24x1x3584 .bf16 from m ((c : Thread nD τ).loc main_arg0)) (ix3 r 0 k)

/-- the codes of the weights, -/
def argW (c : Dev nD) : Fin 4096 → Fin 3584 → EReal :=
  fun n k => (show FVec Ideal S4096x3584 .fp8e4m3 from m ((c : Thread nD τ).loc main_arg1)) (ix2 n k)

/-- and their scales. -/
def argS (c : Dev nD) : Fin 32 → Fin 28 → EReal :=
  fun a g => (show FVec Ideal S32x28 .f32 from m ((c : Thread nD τ).loc main_arg2)) (ix2 a g)

/-! ## The blocks -/

/-- The windows' index maps. -/
theorem idx : ∀ t : Fin cfg0.N, win0_0.index t = ![0, 0, 0] ∧ win0_1.index t = ![0, 0, 0] ∧ win0_2.index t = ![0, 0]
    ∧ win0_3.index t = ![0, 0, 0] ∧ win0_4.index t = ![0, 0, 0] ∧ win0_5.index t = ![0, 0] :=
  (by decide +kernel : ∀ t : Fin grid0.N, _)

theorem iblk0_apply (c : Dev nD) (t : Fin cfg0.N) (r : Fin 24) (g : Fin 28) (l : Fin 128) :
    (show FVec Ideal S24x28x128 .bf16 from iblk m c 0 t) (ix3 r g l) = argX m c r ⟨128 * g.val + l.val, by omega⟩ := by
  unfold argX
  have e : (show FVec Ideal S24x28x128 .bf16 from iblk m c 0 t) (ix3 r g l)
      = (show FVec Ideal S24x28x128 .bf16 from V m c main_v0) (ix3 r g l) := by
    blk_ext [iblk, idx t]
  rw [e]
  entry_read
  pointwise
  exact congrArg (fun k => (show FVec Ideal S24x1x3584 .bf16 from m ((c : Thread nD τ).loc main_arg0)) (ix3 r 0 k))
    (Fin.ext (by show g.val * 128 + l.val = 128 * g.val + l.val; omega))

theorem iblk1_apply (c : Dev nD) (t : Fin cfg0.N) (n : Fin 4096) (g : Fin 28) (l : Fin 128) :
    (show FVec Ideal S4096x28x128 .fp8e4m3 from iblk m c 1 t) (ix3 n g l) = argW m c n ⟨128 * g.val + l.val, by omega⟩ := by
  unfold argW
  have e : (show FVec Ideal S4096x28x128 .fp8e4m3 from iblk m c 1 t) (ix3 n g l)
      = (show FVec Ideal S4096x28x128 .fp8e4m3 from V m c main_v1) (ix3 n g l) := by
    blk_ext [iblk, idx t]
  rw [e]
  entry_read
  pointwise
  exact congrArg (fun k => (show FVec Ideal S4096x3584 .fp8e4m3 from m ((c : Thread nD τ).loc main_arg1)) (ix2 n k))
    (Fin.ext (by show g.val * 128 + l.val = 128 * g.val + l.val; omega))

theorem iblk2_apply (c : Dev nD) (t : Fin cfg0.N) (a : Fin 32) (g : Fin 28) :
    (show FVec Ideal S32x28 .f32 from iblk m c 2 t) (ix2 a g) = argS m c a g := by
  unfold argS
  blk_ext [iblk, V, idx t]

/-! ## The buffers after the body -/

/-- A load of the whole buffer reads the buffer. -/
theorem ld_whole {e : EltTy} {s : Shape} {off : Fin s.rank → ℕ} (hoff : ∀ a, off a = 0) (inb : ∀ a, off a + s.size a ≤ s.size a)
    (X : s.Idx → Elt Ideal e) : View.ld X (Rect.unit off s.size inb) = X :=
  funext fun x => congrArg X (funext fun a => Fin.ext (by
    show off a + 1 * (x a).val = (x a).val
    rw [hoff, Nat.zero_add, Nat.one_mul]))

/-- A piece over the whole buffer is what the buffer holds. -/
theorem canon_whole {e : EltTy} {s : Shape} {off : Fin s.rank → ℕ} (hoff : ∀ a, off a = 0) (inb : ∀ a, off a + s.size a ≤ s.size a)
    (X : s.Idx → Elt Ideal e) : View.canon [(⟨Rect.unit off s.size inb, X⟩ : View.Piece (Elt Ideal) s e)] = X :=
  funext fun x => by
    have h : (Rect.unit off s.size inb).emb x = x := funext fun a => Fin.ext (by
      show off a + 1 * (x a).val = (x a).val
      rw [hoff, Nat.zero_add, Nat.one_mul])
    exact (congrArg (View.canon _) h.symm).trans (View.canon_cons_emb (Rect.unit off s.size inb) X [] x)

theorem zeros2 : ∀ a : Fin 2, (![0, 0] : Fin 2 → ℕ) a = 0 := by decide
theorem zeros3 : ∀ a : Fin 3, (![0, 0, 0] : Fin 3 → ℕ) a = 0 := by decide

theorem row_eq (c : Dev nD) (t : Fin cfg0.N) (r : Fin 24) (g : Fin 28) :
    (fun x => (show FVec Ideal S24x28x128 .bf16 from iblk m c 0 t) (ix3 r g x)) = groupRow (argX m c) r g :=
  funext fun x => iblk0_apply m c t r g x

/-- The codes, -/
theorem out4_apply (c : Dev nD) (t : Fin cfg0.N) (r : Fin 24) (g : Fin 28) (l : Fin 128) :
    out0_4 (iblk m c 0 t) (iblk m c 1 t) (iblk m c 2 t) (ix3 r g l) = rowCode (groupRow (argX m c) r g) l := by
  unfold out0_4
  rw [canon_whole zeros3, ld_whole zeros3, code_apply]
  exact congrArg (rowCode · l) (row_eq m c t r g)

/-- the scales -/
theorem out5_apply (c : Dev nD) (t : Fin cfg0.N) (r : Fin 24) (g : Fin 28) :
    out0_5 (iblk m c 0 t) (iblk m c 1 t) (iblk m c 2 t) (ix2 r g) = rowScale (groupRow (argX m c) r g) := by
  unfold out0_5 k0_pay5
  rw [canon_whole zeros2, ld_whole zeros3, scale_apply]
  exact congrArg rowScale (row_eq m c t r g)

/-- and the product. -/
theorem out3_apply (c : Dev nD) (t : Fin cfg0.N) (r : Fin 24) (n : Fin 4096) :
    out0_3 (iblk m c 0 t) (iblk m c 1 t) (iblk m c 2 t) (ix3 r 0 n) = product (argX m c) (argW m c) (argS m c) r n := by
  unfold out0_3 k0_pay5
  rw [canon_whole zeros3, ld_whole zeros3, ld_whole zeros3, ld_whole zeros2, prod_apply]
  unfold product
  refine Finset.sum_congr rfl (fun g _ => ?_)
  refine congrArg₂ (· * ·) (congrArg₂ (· * ·) (Finset.sum_congr rfl (fun l _ => congrArg₂ (· * ·) ?_ ?_)) ?_) ?_
  · exact (code_apply _ r g l).trans (congrArg (rowCode · l) (row_eq m c t r g))
  · exact iblk1_apply m c t n g l
  · exact (scale_apply _ r g).trans (congrArg rowScale (row_eq m c t r g))
  · exact iblk2_apply m c t _ g

/-! ## The arrays -/

/-- The array of the product, -/
theorem final3 (c : Dev nD) : (dats m 0 c).arrAt 3 cfg0.N
    = fun i : S24x1x4096.Idx => product (argX m c) (argW m c) (argS m c) (i 0) (i 2) := by
  refine (dats m 0 c).arrAt_eq_of_covers 3 _ (by decide +kernel) fun t _ y => ?_
  blk_simp
  rw [after0_3]
  idx_vars y
  have h1 : y1 = 0 := Subsingleton.elim _ _
  subst h1
  have e : ((win0 3).blk t).view.emb (ix3 y0 0 y2) = (ix3 y0 0 y2 : S24x1x4096.Idx) := by
    blk_ext [idx t]
  exact (out3_apply m c t y0 y2).trans
    (congrArg (fun i : S24x1x4096.Idx => product (argX m c) (argW m c) (argS m c) (i 0) (i 2)) e).symm

/-- of the codes, -/
theorem final4 (c : Dev nD) : (dats m 0 c).arrAt 4 cfg0.N
    = fun i : S24x28x128.Idx => rowCode (groupRow (argX m c) (i 0) (i 1)) (i 2) := by
  refine (dats m 0 c).arrAt_eq_of_covers 4 _ (by decide +kernel) fun t _ y => ?_
  blk_simp
  rw [after0_4]
  idx_vars y
  have e : ((win0 4).blk t).view.emb (ix3 y0 y1 y2) = (ix3 y0 y1 y2 : S24x28x128.Idx) := by
    blk_ext [idx t]
  exact (out4_apply m c t y0 y1 y2).trans
    (congrArg (fun i : S24x28x128.Idx => rowCode (groupRow (argX m c) (i 0) (i 1)) (i 2)) e).symm

/-- and of the scales. -/
theorem final5 (c : Dev nD) : (dats m 0 c).arrAt 5 cfg0.N
    = fun i : S24x28.Idx => rowScale (groupRow (argX m c) (i 0) (i 1)) := by
  refine (dats m 0 c).arrAt_eq_of_covers 5 _ (by decide +kernel) fun t _ y => ?_
  blk_simp
  rw [after0_5]
  idx_vars y
  have e : ((win0 5).blk t).view.emb (ix2 y0 y1) = (ix2 y0 y1 : S24x28.Idx) := by
    blk_ext [idx t]
  exact (out5_apply m c t y0 y1).trans
    (congrArg (fun i : S24x28.Idx => rowScale (groupRow (argX m c) (i 0) (i 1))) e).symm

/-- After the reference's run its three arrays hold the product, the codes and the scales of its arguments, which it
    leaves as they were. -/
theorem run_value : θ_run defs (onTc (τ := τ) (main (F := Ideal))) ⟨m, fun _ => 0, ρ⟩ fun r => ∀ c : Dev nD,
      r.2.mem ((c : Thread nD τ).loc main_v2_0)
        = (fun i : S24x1x4096.Idx => product (argX m c) (argW m c) (argS m c) (i 0) (i 2))
      ∧ r.2.mem ((c : Thread nD τ).loc main_v2_1)
        = (fun i : S24x28x128.Idx => rowCode (groupRow (argX m c) (i 0) (i 1)) (i 2))
      ∧ r.2.mem ((c : Thread nD τ).loc main_v2_2)
        = (fun i : S24x28.Idx => rowScale (groupRow (argX m c) (i 0) (i 1)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final3 m c), (h c).2.1.trans (final4 m c),
      (h c).2.2.1.trans (final5 m c), (h c).2.2.2⟩) (Value.run_blocks m ρ)

end Cert.ReferenceIdeal.Run

end
-- ==== Proof.Equal.lean ====
/- The kernel and the reference compute the same three arrays. -/
module

public import proofs.«01_k».proof.Defs
public import proofs.«01_k».proof.Proof.KernelRun
public import proofs.«01_k».proof.Proof.RefRun

@[expose] public section

noncomputable section

namespace Cert.Equal

open Idealize.ShloMosaic Idealize.ShloMosaic.TcCoe Idealize.SL.Sem Cert.Scale

/-- From equal arguments the kernel and the reference end with the same product, the same codes and the same scales. -/
theorem algebraic : Cert.algebraic_KernelIdeal_ReferenceIdeal (hKernelIdeal := Cert.KernelIdeal.Gen.facts)
    (hReferenceIdeal := Cert.ReferenceIdeal.Gen.facts) := by
  intro m g m' g' _ hargs
  refine ⟨_, _, _, Cert.KernelIdeal.Run.run_value m g, ?_⟩
  have hX : ∀ c, Cert.ReferenceIdeal.Run.argX m' c = Cert.KernelIdeal.Run.argX m c := fun c => by
    unfold Cert.ReferenceIdeal.Run.argX
    rw [(hargs c).1]
    rfl
  have hW : ∀ c, Cert.ReferenceIdeal.Run.argW m' c = Cert.KernelIdeal.Run.argW m c := fun c => by
    unfold Cert.ReferenceIdeal.Run.argW
    rw [(hargs c).2.1]
    rfl
  have hS : ∀ c, Cert.ReferenceIdeal.Run.argS m' c = Cert.KernelIdeal.Run.argS m c := fun c => by
    unfold Cert.ReferenceIdeal.Run.argS
    rw [(hargs c).2.2]
    rfl
  refine (θ_run _ _ _).mono (fun r h c => ?_) (Cert.ReferenceIdeal.Run.run_value m' g')
  have h' := h c
  rw [hX c, hW c, hS c] at h'
  exact h'

end Cert.Equal

end
-- ==== Proof.lean ====
/- The claims about the kernel and the reference, assembled. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal.Value
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.KernelFrame
public import proofs.«01_k».proof.Proof.Printed.KernelFrame
public import proofs.«01_k».proof.Proof.Equal
public import Idealize.ShloMosaic.Adequacy
public import Idealize.ShloMosaic.Init

@[expose] public section

noncomputable section

namespace Cert.Proof

open Idealize.ShloMosaic Idealize.SL.Sem Cert.Kernel

/-- The three programs run and leave their arguments, the kernel keeps its meaning over the extended reals, and there it
    computes what the reference computes. -/
theorem claim : Cert.Claim := ⟨Cert.Kernel.Gen.facts, Cert.KernelIdeal.Gen.facts, Cert.ReferenceIdeal.Gen.facts,
  fun m ρ _ => Cert.Kernel.Run.frame m ρ, fun m ρ _ => Cert.KernelIdeal.Run.frame m ρ,
  fun m ρ _ => Cert.ReferenceIdeal.Gen.frame m ρ, trivial, Cert.Equal.algebraic⟩

end Cert.Proof

end
